-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Chan (m : (ℓ : Loc Cert.Chan.nD Cert.Chan.τ Cert.Chan.sig) → Buf (Elt Bits) ℓ) : Prop :=
  True

def Pre_ChanIdeal (m : (ℓ : Loc Cert.ChanIdeal.nD Cert.ChanIdeal.τ Cert.ChanIdeal.sig) → Buf (Elt Ideal) ℓ) : Prop :=
  True

def Pre_ChanRefIdeal (m : (ℓ : Loc Cert.ChanRefIdeal.nD Cert.ChanRefIdeal.τ Cert.ChanRefIdeal.sig) → Buf (Elt Ideal) ℓ) : Prop :=
  True

def Pre_Posn (m : (ℓ : Loc Cert.Posn.nD Cert.Posn.τ Cert.Posn.sig) → Buf (Elt Bits) ℓ) : Prop :=
  True

def Pre_PosnIdeal (m : (ℓ : Loc Cert.PosnIdeal.nD Cert.PosnIdeal.τ Cert.PosnIdeal.sig) → Buf (Elt Ideal) ℓ) : Prop :=
  True

def Pre_PosnRefIdeal (m : (ℓ : Loc Cert.PosnRefIdeal.nD Cert.PosnRefIdeal.τ Cert.PosnRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11))
      ∧ r.2.sem = fun _ => 0)

def quiescent_Chan [hChan : Cert.Chan.Facts] : Prop :=
  ∀ (m : (ℓ : Loc Cert.Chan.nD Cert.Chan.τ Cert.Chan.sig) → Buf (Elt Bits) ℓ) (g : Dev Cert.Chan.nD → PrngReg), Pre_Chan m →
    θ_run (Cert.Chan.defs (F := Bits)) (onTc (τ := Cert.Chan.τ) (Cert.Chan.main (F := Bits))) ⟨m, fun _ => 0, g⟩ (fun r => (∀ c : Dev Cert.Chan.nD,
      r.2.mem ((c.tc : Thread Cert.Chan.nD Cert.Chan.τ).loc Cert.Chan.main_arg0) = m ((c.tc : Thread Cert.Chan.nD Cert.Chan.τ).loc Cert.Chan.main_arg0))
      ∧ r.2.sem = fun _ => 0)

def quiescent_ChanIdeal [hChanIdeal : Cert.ChanIdeal.Facts] : Prop :=
  ∀ (m : (ℓ : Loc Cert.ChanIdeal.nD Cert.ChanIdeal.τ Cert.ChanIdeal.sig) → Buf (Elt Ideal) ℓ) (g : Dev Cert.ChanIdeal.nD → PrngReg), Pre_ChanIdeal m →
    θ_run (Cert.ChanIdeal.defs (F := Ideal)) (onTc (τ := Cert.ChanIdeal.τ) (Cert.ChanIdeal.main (F := Ideal))) ⟨m, fun _ => 0, g⟩ (fun r => (∀ c : Dev Cert.ChanIdeal.nD,
      r.2.mem ((c.tc : Thread Cert.ChanIdeal.nD Cert.ChanIdeal.τ).loc Cert.ChanIdeal.main_arg0) = m ((c.tc : Thread Cert.ChanIdeal.nD Cert.ChanIdeal.τ).loc Cert.ChanIdeal.main_arg0))
      ∧ r.2.sem = fun _ => 0)

def quiescent_ChanRefIdeal [hChanRefIdeal : Cert.ChanRefIdeal.Facts] : Prop :=
  ∀ (m : (ℓ : Loc Cert.ChanRefIdeal.nD Cert.ChanRefIdeal.τ Cert.ChanRefIdeal.sig) → Buf (Elt Ideal) ℓ) (g : Dev Cert.ChanRefIdeal.nD → PrngReg), Pre_ChanRefIdeal m →
    θ_run (Cert.ChanRefIdeal.defs (F := Ideal)) (onTc (τ := Cert.ChanRefIdeal.τ) (Cert.ChanRefIdeal.main (F := Ideal))) ⟨m, fun _ => 0, g⟩ (fun r => (∀ c : Dev Cert.ChanRefIdeal.nD,
      r.2.mem ((c.tc : Thread Cert.ChanRefIdeal.nD Cert.ChanRefIdeal.τ).loc Cert.ChanRefIdeal.main_arg0) = m ((c.tc : Thread Cert.ChanRefIdeal.nD Cert.ChanRefIdeal.τ).loc Cert.ChanRefIdeal.main_arg0))
      ∧ r.2.sem = fun _ => 0)

def quiescent_Posn [hPosn : Cert.Posn.Facts] : Prop :=
  ∀ (m : (ℓ : Loc Cert.Posn.nD Cert.Posn.τ Cert.Posn.sig) → Buf (Elt Bits) ℓ) (g : Dev Cert.Posn.nD → PrngReg), Pre_Posn m →
    θ_run (Cert.Posn.defs (F := Bits)) (onTc (τ := Cert.Posn.τ) (Cert.Posn.main (F := Bits))) ⟨m, fun _ => 0, g⟩ (fun r => (∀ c : Dev Cert.Posn.nD,
      r.2.mem ((c.tc : Thread Cert.Posn.nD Cert.Posn.τ).loc Cert.Posn.main_arg0) = m ((c.tc : Thread Cert.Posn.nD Cert.Posn.τ).loc Cert.Posn.main_arg0)
      ∧ r.2.mem ((c.tc : Thread Cert.Posn.nD Cert.Posn.τ).loc Cert.Posn.main_arg1) = m ((c.tc : Thread Cert.Posn.nD Cert.Posn.τ).loc Cert.Posn.main_arg1))
      ∧ r.2.sem = fun _ => 0)

def quiescent_PosnIdeal [hPosnIdeal : Cert.PosnIdeal.Facts] : Prop :=
  ∀ (m : (ℓ : Loc Cert.PosnIdeal.nD Cert.PosnIdeal.τ Cert.PosnIdeal.sig) → Buf (Elt Ideal) ℓ) (g : Dev Cert.PosnIdeal.nD → PrngReg), Pre_PosnIdeal m →
    θ_run (Cert.PosnIdeal.defs (F := Ideal)) (onTc (τ := Cert.PosnIdeal.τ) (Cert.PosnIdeal.main (F := Ideal))) ⟨m, fun _ => 0, g⟩ (fun r => (∀ c : Dev Cert.PosnIdeal.nD,
      r.2.mem ((c.tc : Thread Cert.PosnIdeal.nD Cert.PosnIdeal.τ).loc Cert.PosnIdeal.main_arg0) = m ((c.tc : Thread Cert.PosnIdeal.nD Cert.PosnIdeal.τ).loc Cert.PosnIdeal.main_arg0)
      ∧ r.2.mem ((c.tc : Thread Cert.PosnIdeal.nD Cert.PosnIdeal.τ).loc Cert.PosnIdeal.main_arg1) = m ((c.tc : Thread Cert.PosnIdeal.nD Cert.PosnIdeal.τ).loc Cert.PosnIdeal.main_arg1))
      ∧ r.2.sem = fun _ => 0)

def quiescent_PosnRefIdeal [hPosnRefIdeal : Cert.PosnRefIdeal.Facts] : Prop :=
  ∀ (m : (ℓ : Loc Cert.PosnRefIdeal.nD Cert.PosnRefIdeal.τ Cert.PosnRefIdeal.sig) → Buf (Elt Ideal) ℓ) (g : Dev Cert.PosnRefIdeal.nD → PrngReg), Pre_PosnRefIdeal m →
    θ_run (Cert.PosnRefIdeal.defs (F := Ideal)) (onTc (τ := Cert.PosnRefIdeal.τ) (Cert.PosnRefIdeal.main (F := Ideal))) ⟨m, fun _ => 0, g⟩ (fun r => (∀ c : Dev Cert.PosnRefIdeal.nD,
      r.2.mem ((c.tc : Thread Cert.PosnRefIdeal.nD Cert.PosnRefIdeal.τ).loc Cert.PosnRefIdeal.main_arg0) = m ((c.tc : Thread Cert.PosnRefIdeal.nD Cert.PosnRefIdeal.τ).loc Cert.PosnRefIdeal.main_arg0)
      ∧ r.2.mem ((c.tc : Thread Cert.PosnRefIdeal.nD Cert.PosnRefIdeal.τ).loc Cert.PosnRefIdeal.main_arg1) = m ((c.tc : Thread Cert.PosnRefIdeal.nD Cert.PosnRefIdeal.τ).loc Cert.PosnRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8)
      ∧ r.2.mem ((c.tc : Thread Cert.FirstRefIdeal.nD Cert.FirstRefIdeal.τ).loc Cert.FirstRefIdeal.main_arg9) = m ((c.tc : Thread Cert.FirstRefIdeal.nD Cert.FirstRefIdeal.τ).loc Cert.FirstRefIdeal.main_arg9)
      ∧ r.2.mem ((c.tc : Thread Cert.FirstRefIdeal.nD Cert.FirstRefIdeal.τ).loc Cert.FirstRefIdeal.main_arg10) = m ((c.tc : Thread Cert.FirstRefIdeal.nD Cert.FirstRefIdeal.τ).loc Cert.FirstRefIdeal.main_arg10)
      ∧ r.2.mem ((c.tc : Thread Cert.FirstRefIdeal.nD Cert.FirstRefIdeal.τ).loc Cert.FirstRefIdeal.main_arg11) = m ((c.tc : Thread Cert.FirstRefIdeal.nD Cert.FirstRefIdeal.τ).loc Cert.FirstRefIdeal.main_arg11))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v32)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v32) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v93) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v60) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v25) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v39) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)) →
    ∃ (v0 : (c : Dev Cert.SampleIdeal.nD) → Buf (Elt Ideal) ((c.tc : Thread Cert.SampleIdeal.nD Cert.SampleIdeal.τ).loc Cert.SampleIdeal.main_v9)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v9) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v60) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11))

def preserves_Chan_ChanIdeal : Prop :=
  True

def algebraic_ChanIdeal_ChanRefIdeal [hChanIdeal : Cert.ChanIdeal.Facts] [hChanRefIdeal : Cert.ChanRefIdeal.Facts] : Prop :=
  ∀ (m : (ℓ : Loc Cert.ChanIdeal.nD Cert.ChanIdeal.τ Cert.ChanIdeal.sig) → Buf (Elt Ideal) ℓ) (g : Dev Cert.ChanIdeal.nD → PrngReg)
    (m' : (ℓ : Loc Cert.ChanRefIdeal.nD Cert.ChanRefIdeal.τ Cert.ChanRefIdeal.sig) → Buf (Elt Ideal) ℓ) (g' : Dev Cert.ChanRefIdeal.nD → PrngReg), Pre_ChanIdeal m →
    (∀ c : Dev Cert.ChanIdeal.nD,
      m' ((c.tc : Thread Cert.ChanRefIdeal.nD Cert.ChanRefIdeal.τ).loc Cert.ChanRefIdeal.main_arg0) = m ((c.tc : Thread Cert.ChanIdeal.nD Cert.ChanIdeal.τ).loc Cert.ChanIdeal.main_arg0)) →
    ∃ (v0 : (c : Dev Cert.ChanIdeal.nD) → Buf (Elt Ideal) ((c.tc : Thread Cert.ChanIdeal.nD Cert.ChanIdeal.τ).loc Cert.ChanIdeal.main_v57)),
      θ_run (Cert.ChanIdeal.defs (F := Ideal)) (onTc (τ := Cert.ChanIdeal.τ) (Cert.ChanIdeal.main (F := Ideal))) ⟨m, fun _ => 0, g⟩ (fun r => ∀ c : Dev Cert.ChanIdeal.nD,
          r.2.mem ((c.tc : Thread Cert.ChanIdeal.nD Cert.ChanIdeal.τ).loc Cert.ChanIdeal.main_v57) = v0 c
          ∧ r.2.mem ((c.tc : Thread Cert.ChanIdeal.nD Cert.ChanIdeal.τ).loc Cert.ChanIdeal.main_arg0) = m ((c.tc : Thread Cert.ChanIdeal.nD Cert.ChanIdeal.τ).loc Cert.ChanIdeal.main_arg0))
      ∧ θ_run (Cert.ChanRefIdeal.defs (F := Ideal)) (onTc (τ := Cert.ChanRefIdeal.τ) (Cert.ChanRefIdeal.main (F := Ideal))) ⟨m', fun _ => 0, g'⟩ (fun r => ∀ c : Dev Cert.ChanRefIdeal.nD,
          r.2.mem ((c.tc : Thread Cert.ChanRefIdeal.nD Cert.ChanRefIdeal.τ).loc Cert.ChanRefIdeal.main_v49) = v0 c
          ∧ r.2.mem ((c.tc : Thread Cert.ChanRefIdeal.nD Cert.ChanRefIdeal.τ).loc Cert.ChanRefIdeal.main_arg0) = m' ((c.tc : Thread Cert.ChanRefIdeal.nD Cert.ChanRefIdeal.τ).loc Cert.ChanRefIdeal.main_arg0))

def preserves_Posn_PosnIdeal : Prop :=
  True

def algebraic_PosnIdeal_PosnRefIdeal [hPosnIdeal : Cert.PosnIdeal.Facts] [hPosnRefIdeal : Cert.PosnRefIdeal.Facts] : Prop :=
  ∀ (m : (ℓ : Loc Cert.PosnIdeal.nD Cert.PosnIdeal.τ Cert.PosnIdeal.sig) → Buf (Elt Ideal) ℓ) (g : Dev Cert.PosnIdeal.nD → PrngReg)
    (m' : (ℓ : Loc Cert.PosnRefIdeal.nD Cert.PosnRefIdeal.τ Cert.PosnRefIdeal.sig) → Buf (Elt Ideal) ℓ) (g' : Dev Cert.PosnRefIdeal.nD → PrngReg), Pre_PosnIdeal m →
    (∀ c : Dev Cert.PosnIdeal.nD,
      m' ((c.tc : Thread Cert.PosnRefIdeal.nD Cert.PosnRefIdeal.τ).loc Cert.PosnRefIdeal.main_arg0) = m ((c.tc : Thread Cert.PosnIdeal.nD Cert.PosnIdeal.τ).loc Cert.PosnIdeal.main_arg0)
      ∧ m' ((c.tc : Thread Cert.PosnRefIdeal.nD Cert.PosnRefIdeal.τ).loc Cert.PosnRefIdeal.main_arg1) = m ((c.tc : Thread Cert.PosnIdeal.nD Cert.PosnIdeal.τ).loc Cert.PosnIdeal.main_arg1)) →
    ∃ (v0 : (c : Dev Cert.PosnIdeal.nD) → Buf (Elt Ideal) ((c.tc : Thread Cert.PosnIdeal.nD Cert.PosnIdeal.τ).loc Cert.PosnIdeal.main_v70)),
      θ_run (Cert.PosnIdeal.defs (F := Ideal)) (onTc (τ := Cert.PosnIdeal.τ) (Cert.PosnIdeal.main (F := Ideal))) ⟨m, fun _ => 0, g⟩ (fun r => ∀ c : Dev Cert.PosnIdeal.nD,
          r.2.mem ((c.tc : Thread Cert.PosnIdeal.nD Cert.PosnIdeal.τ).loc Cert.PosnIdeal.main_v70) = v0 c
          ∧ r.2.mem ((c.tc : Thread Cert.PosnIdeal.nD Cert.PosnIdeal.τ).loc Cert.PosnIdeal.main_arg0) = m ((c.tc : Thread Cert.PosnIdeal.nD Cert.PosnIdeal.τ).loc Cert.PosnIdeal.main_arg0)
          ∧ r.2.mem ((c.tc : Thread Cert.PosnIdeal.nD Cert.PosnIdeal.τ).loc Cert.PosnIdeal.main_arg1) = m ((c.tc : Thread Cert.PosnIdeal.nD Cert.PosnIdeal.τ).loc Cert.PosnIdeal.main_arg1))
      ∧ θ_run (Cert.PosnRefIdeal.defs (F := Ideal)) (onTc (τ := Cert.PosnRefIdeal.τ) (Cert.PosnRefIdeal.main (F := Ideal))) ⟨m', fun _ => 0, g'⟩ (fun r => ∀ c : Dev Cert.PosnRefIdeal.nD,
          r.2.mem ((c.tc : Thread Cert.PosnRefIdeal.nD Cert.PosnRefIdeal.τ).loc Cert.PosnRefIdeal.main_v31) = v0 c
          ∧ r.2.mem ((c.tc : Thread Cert.PosnRefIdeal.nD Cert.PosnRefIdeal.τ).loc Cert.PosnRefIdeal.main_arg0) = m' ((c.tc : Thread Cert.PosnRefIdeal.nD Cert.PosnRefIdeal.τ).loc Cert.PosnRefIdeal.main_arg0)
          ∧ r.2.mem ((c.tc : Thread Cert.PosnRefIdeal.nD Cert.PosnRefIdeal.τ).loc Cert.PosnRefIdeal.main_arg1) = m' ((c.tc : Thread Cert.PosnRefIdeal.nD Cert.PosnRefIdeal.τ).loc Cert.PosnRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)
      ∧ m' ((c.tc : Thread Cert.FirstRefIdeal.nD Cert.FirstRefIdeal.τ).loc Cert.FirstRefIdeal.main_arg9) = m ((c.tc : Thread Cert.FirstIdeal.nD Cert.FirstIdeal.τ).loc Cert.FirstIdeal.main_arg9)
      ∧ m' ((c.tc : Thread Cert.FirstRefIdeal.nD Cert.FirstRefIdeal.τ).loc Cert.FirstRefIdeal.main_arg10) = m ((c.tc : Thread Cert.FirstIdeal.nD Cert.FirstIdeal.τ).loc Cert.FirstIdeal.main_arg10)
      ∧ m' ((c.tc : Thread Cert.FirstRefIdeal.nD Cert.FirstRefIdeal.τ).loc Cert.FirstRefIdeal.main_arg11) = m ((c.tc : Thread Cert.FirstIdeal.nD Cert.FirstIdeal.τ).loc Cert.FirstIdeal.main_arg11)) →
    ∃ (v0 : (c : Dev Cert.FirstIdeal.nD) → Buf (Elt Ideal) ((c.tc : Thread Cert.FirstIdeal.nD Cert.FirstIdeal.τ).loc Cert.FirstIdeal.main_v9)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v9) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v84) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8)
          ∧ r.2.mem ((c.tc : Thread Cert.FirstRefIdeal.nD Cert.FirstRefIdeal.τ).loc Cert.FirstRefIdeal.main_arg9) = m' ((c.tc : Thread Cert.FirstRefIdeal.nD Cert.FirstRefIdeal.τ).loc Cert.FirstRefIdeal.main_arg9)
          ∧ r.2.mem ((c.tc : Thread Cert.FirstRefIdeal.nD Cert.FirstRefIdeal.τ).loc Cert.FirstRefIdeal.main_arg10) = m' ((c.tc : Thread Cert.FirstRefIdeal.nD Cert.FirstRefIdeal.τ).loc Cert.FirstRefIdeal.main_arg10)
          ∧ r.2.mem ((c.tc : Thread Cert.FirstRefIdeal.nD Cert.FirstRefIdeal.τ).loc Cert.FirstRefIdeal.main_arg11) = m' ((c.tc : Thread Cert.FirstRefIdeal.nD Cert.FirstRefIdeal.τ).loc Cert.FirstRefIdeal.main_arg11))

def Claim : Prop :=
  ∃ (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hSample : Cert.Sample.Facts) (hSampleIdeal : Cert.SampleIdeal.Facts) (hSampleRefIdeal : Cert.SampleRefIdeal.Facts) (hChan : Cert.Chan.Facts) (hChanIdeal : Cert.ChanIdeal.Facts) (hChanRefIdeal : Cert.ChanRefIdeal.Facts) (hPosn : Cert.Posn.Facts) (hPosnIdeal : Cert.PosnIdeal.Facts) (hPosnRefIdeal : Cert.PosnRefIdeal.Facts) (hFirst : Cert.First.Facts) (hFirstIdeal : Cert.FirstIdeal.Facts) (hFirstRefIdeal : Cert.FirstRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_Sample (hSample := hSample)
    ∧ quiescent_SampleIdeal (hSampleIdeal := hSampleIdeal)
    ∧ quiescent_SampleRefIdeal (hSampleRefIdeal := hSampleRefIdeal)
    ∧ quiescent_Chan (hChan := hChan)
    ∧ quiescent_ChanIdeal (hChanIdeal := hChanIdeal)
    ∧ quiescent_ChanRefIdeal (hChanRefIdeal := hChanRefIdeal)
    ∧ quiescent_Posn (hPosn := hPosn)
    ∧ quiescent_PosnIdeal (hPosnIdeal := hPosnIdeal)
    ∧ quiescent_PosnRefIdeal (hPosnRefIdeal := hPosnRefIdeal)
    ∧ quiescent_First (hFirst := hFirst)
    ∧ quiescent_FirstIdeal (hFirstIdeal := hFirstIdeal)
    ∧ quiescent_FirstRefIdeal (hFirstRefIdeal := hFirstRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_Sample_SampleIdeal
    ∧ algebraic_SampleIdeal_SampleRefIdeal (hSampleIdeal := hSampleIdeal) (hSampleRefIdeal := hSampleRefIdeal)
    ∧ preserves_Chan_ChanIdeal
    ∧ algebraic_ChanIdeal_ChanRefIdeal (hChanIdeal := hChanIdeal) (hChanRefIdeal := hChanRefIdeal)
    ∧ preserves_Posn_PosnIdeal
    ∧ algebraic_PosnIdeal_PosnRefIdeal (hPosnIdeal := hPosnIdeal) (hPosnRefIdeal := hPosnRefIdeal)
    ∧ preserves_First_FirstIdeal
    ∧ algebraic_FirstIdeal_FirstRefIdeal (hFirstIdeal := hFirstIdeal) (hFirstRefIdeal := hFirstRefIdeal)
-- ==== Pre_finite.lean ====
abbrev S16x4096x512 : Shape := ⟨3, ![16, 4096, 512]⟩
abbrev S16x4096x128 : Shape := ⟨3, ![16, 4096, 128]⟩
abbrev S8 : Shape := ⟨1, ![8]⟩
abbrev S_ : Shape := ⟨0, ![]⟩

class Facts : Prop where
  bcast_S_S16x4096x512 : S_.BroadcastsInDim S16x4096x512 (![] : Fin 0 → Fin S16x4096x512.rank)
  bcast_S_S16x4096x128 : S_.BroadcastsInDim S16x4096x128 (![] : Fin 0 → Fin S16x4096x128.rank)
  bcast_S_S8 : S_.BroadcastsInDim S8 (![] : Fin 0 → Fin S8.rank)

variable [Facts]

def fn {F : FTy → Type} [FloatOps F] (main_arg0 : FVec F S16x4096x512 .f32) (main_arg1 : FVec F S16x4096x128 .f32) (main_arg2 : FVec F S16x4096x128 .f32) (main_arg3 : FVec F S8 .f32) : IVec S16x4096x512 1 × IVec S16x4096x128 1 × IVec S8 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_v3 : FVec F S16x4096x128 .f32 := Host.absf main_arg1
  let main_cst_0 : FVec F S_ .f32 := constant S_ .f32 0x7F800000#32
  let main_v4 : FVec F S16x4096x128 .f32 := broadcastInDim S16x4096x128 ![] bcast_S_S16x4096x128 main_cst_0
  let main_v5 : IVec S16x4096x128 1 := cmpf .olt main_v3 main_v4
  let main_cst_1 : FVec F S_ .f32 := constant S_ .f32 0x7F800000#32
  let main_v6 : FVec F S8 .f32 := broadcastInDim S8 ![] bcast_S_S8 main_cst_1
  let main_v7 : IVec S8 1 := cmpf .olt main_arg3 main_v6
  (main_v2, main_v5, main_v7)
-- ==== Attn.lean ====
abbrev S16x4096x512 : Shape := ⟨3, ![16, 4096, 512]⟩
abbrev S16x4096x128 : Shape := ⟨3, ![16, 4096, 128]⟩
abbrev S8 : Shape := ⟨1, ![8]⟩
abbrev S_ : Shape := ⟨0, ![]⟩
abbrev S16x4096x64 : Shape := ⟨3, ![16, 4096, 64]⟩
abbrev S16x4096x256 : Shape := ⟨3, ![16, 4096, 256]⟩
abbrev S8x128 : Shape := ⟨2, ![8, 128]⟩
abbrev S1024 : Shape := ⟨1, ![1024]⟩
abbrev S2x512x1 : Shape := ⟨3, ![2, 512, 1]⟩
abbrev S128x384 : Shape := ⟨2, ![128, 384]⟩
abbrev S1x128x384 : Shape := ⟨3, ![1, 128, 384]⟩
abbrev S8x1x1 : Shape := ⟨3, ![8, 1, 1]⟩
abbrev S8x128x384 : Shape := ⟨3, ![8, 128, 384]⟩
abbrev S2x512x384 : Shape := ⟨3, ![2, 512, 384]⟩
abbrev S1x512x512 : Shape := ⟨3, ![1, 512, 512]⟩
abbrev S1x128x256 : Shape := ⟨3, ![1, 128, 256]⟩
abbrev S1x512x256 : Shape := ⟨3, ![1, 512, 256]⟩
abbrev S128x256 : Shape := ⟨2, ![128, 256]⟩
abbrev S512x256 : Shape := ⟨2, ![512, 256]⟩
abbrev S768x256 : Shape := ⟨2, ![768, 256]⟩
abbrev S128x128 : Shape := ⟨2, ![128, 128]⟩
abbrev S1x128x512 : Shape := ⟨3, ![1, 128, 512]⟩
abbrev S128x512 : Shape := ⟨2, ![128, 512]⟩
abbrev S512x128 : Shape := ⟨2, ![512, 128]⟩
abbrev S384x128 : Shape := ⟨2, ![384, 128]⟩
abbrev S512x384 : Shape := ⟨2, ![512, 384]⟩
abbrev S1x512x384 : Shape := ⟨3, ![1, 512, 384]⟩
abbrev S1x512x1 : Shape := ⟨3, ![1, 512, 1]⟩
abbrev S512x1 : Shape := ⟨2, ![512, 1]⟩
abbrev S512 : Shape := ⟨1, ![512]⟩
abbrev S1x128x128 : Shape := ⟨3, ![1, 128, 128]⟩

abbrev nBuf : Space → Nat
  | .hbm => 45
  | .vmem => 18
  | .smem => 0
  | _ => 0

abbrev bufTy : (tb : Table) → Fin (tcTables nBuf tb) → BufTy
  | .hbm, ⟨0, _⟩ => ⟨S16x4096x512, .f32⟩
  | .hbm, ⟨1, _⟩ => ⟨S16x4096x128, .f32⟩
  | .hbm, ⟨2, _⟩ => ⟨S16x4096x128, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S16x4096x512, .f32⟩
  | .hbm, ⟨7, _⟩ => ⟨S16x4096x512, .f32⟩
  | .hbm, ⟨8, _⟩ => ⟨S16x4096x512, .bf16⟩
  | .hbm, ⟨9, _⟩ => ⟨S16x4096x64, .f32⟩
  | .hbm, ⟨10, _⟩ => ⟨S16x4096x64, .f32⟩
  | .hbm, ⟨11, _⟩ => ⟨S16x4096x64, .f32⟩
  | .hbm, ⟨12, _⟩ => ⟨S16x4096x64, .f32⟩
  | .hbm, ⟨13, _⟩ => ⟨S16x4096x256, .f32⟩
  | .hbm, ⟨14, _⟩ => ⟨S16x4096x256, .bf16⟩
  | .hbm, ⟨15, _⟩ => ⟨S16x4096x256, .f32⟩
  | .hbm, ⟨16, _⟩ => ⟨S16x4096x256, .bf16⟩
  | .hbm, ⟨17, _⟩ => ⟨S8x128, .f32⟩
  | .hbm, ⟨18, _⟩ => ⟨S1024, .f32⟩
  | .hbm, ⟨19, _⟩ => ⟨S2x512x1, .f32⟩
  | .hbm, ⟨20, _⟩ => ⟨S128x384, .i32⟩
  | .hbm, ⟨21, _⟩ => ⟨S128x384, .i32⟩
  | .hbm, ⟨22, _⟩ => ⟨S_, .i32⟩
  | .hbm, ⟨23, _⟩ => ⟨S128x384, .i32⟩
  | .hbm, ⟨24, _⟩ => ⟨S128x384, .i32⟩
  | .hbm, ⟨25, _⟩ => ⟨S128x384, .i32⟩
  | .hbm, ⟨26, _⟩ => ⟨S128x384, .i32⟩
  | .hbm, ⟨27, _⟩ => ⟨S1x128x384, .i32⟩
  | .hbm, ⟨28, _⟩ => ⟨S_, .i32⟩
  | .hbm, ⟨29, _⟩ => ⟨S1x128x384, .i32⟩
  | .hbm, ⟨30, _⟩ => ⟨S1x128x384, .i1⟩
  | .hbm, ⟨31, _⟩ => ⟨S8x1x1, .f32⟩
  | .hbm, ⟨32, _⟩ => ⟨S8x1x1, .f32⟩
  | .hbm, ⟨33, _⟩ => ⟨S1x128x384, .i32⟩
  | .hbm, ⟨34, _⟩ => ⟨S1x128x384, .f32⟩
  | .hbm, ⟨35, _⟩ => ⟨S8x128x384, .f32⟩
  | .hbm, ⟨36, _⟩ => ⟨S8x128x384, .f32⟩
  | .hbm, ⟨37, _⟩ => ⟨S8x128x384, .f32⟩
  | .hbm, ⟨38, _⟩ => ⟨S_, .f32⟩
  | .hbm, ⟨39, _⟩ => ⟨S_, .f32⟩
  | .hbm, ⟨40, _⟩ => ⟨S8x128x384, .i1⟩
  | .hbm, ⟨41, _⟩ => ⟨S8x128x384, .f32⟩
  | .hbm, ⟨42, _⟩ => ⟨S8x128x384, .f32⟩
  | .hbm, ⟨43, _⟩ => ⟨S2x512x384, .f32⟩
  | .hbm, ⟨44, _⟩ => ⟨S16x4096x512, .f32⟩
  | .local _ .vmem, ⟨0, _⟩ => ⟨S1x512x512, .bf16⟩
  | .local _ .vmem, ⟨1, _⟩ => ⟨S1x512x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S2x512x384, .f32⟩
  | .local _ .vmem, ⟨15, _⟩ => ⟨S2x512x1, .f32⟩
  | .local _ .vmem, ⟨16, _⟩ => ⟨S1x512x512, .f32⟩
  | .local _ .vmem, ⟨17, _⟩ => ⟨S1x512x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16x4096x512 : Shape := ⟨3, ![16, 4096, 512]⟩
abbrev S16x4096x128 : Shape := ⟨3, ![16, 4096, 128]⟩
abbrev S8 : Shape := ⟨1, ![8]⟩
abbrev S16x32x128x2x4x64 : Shape := ⟨6, ![16, 32, 128, 2, 4, 64]⟩
abbrev S16x4096x2x64 : Shape := ⟨4, ![16, 4096, 2, 64]⟩
abbrev S_ : Shape := ⟨0, ![]⟩
abbrev S16x4352x2x64 : Shape := ⟨4, ![16, 4352, 2, 64]⟩
abbrev S16x34x128x2x64 : Shape := ⟨5, ![16, 34, 128, 2, 64]⟩
abbrev S16x32x128x2x64 : Shape := ⟨5, ![16, 32, 128, 2, 64]⟩
abbrev S16x32x384x2x64 : Shape := ⟨5, ![16, 32, 384, 2, 64]⟩
abbrev S16x32x2x384x128x4 : Shape := ⟨6, ![16, 32, 2, 384, 128, 4]⟩
abbrev S16x32x2x4x128x384 : Shape := ⟨6, ![16, 32, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x1x2x4x128x384 : Shape := ⟨6, ![1, 1, 2, 4, 128, 384]⟩
abbrev S1x32x1x1x128x384 : Shape := ⟨6, ![1, 32, 1, 1, 128, 384]⟩
abbrev S1x1x2x4x1x1 : Shape := ⟨6, ![1, 1, 2, 4, 1, 1]⟩
abbrev S16x32x2x4x128 : Shape := ⟨5, ![16, 32, 2, 4, 128]⟩
abbrev S16x32x2x4x128x1 : Shape := ⟨6, ![16, 32, 2, 4, 128, 1]⟩
abbrev S16x32x2x64x4x128 : Shape := ⟨6, ![16, 32, 2, 64, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x128, .f32⟩
  | .hbm, ⟨2, _⟩ => ⟨S16x4096x128, .f32⟩
  | .hbm, ⟨3, _⟩ => ⟨S8, .f32⟩
  | .hbm, ⟨4, _⟩ => ⟨S16x32x128x2x4x64, .f32⟩
  | .hbm, ⟨5, _⟩ => ⟨S16x4096x2x64, .f32⟩
  | .hbm, ⟨6, _⟩ => ⟨S_, .i32⟩
  | .hbm, ⟨7, _⟩ => ⟨S_, .f32⟩
  | .hbm, ⟨8, _⟩ => ⟨S16x4352x2x64, .f32⟩
  | .hbm, ⟨9, _⟩ => ⟨S16x34x128x2x64, .f32⟩
  | .hbm, ⟨10, _⟩ => ⟨S16x32x128x2x64, .f32⟩
  | .hbm, ⟨11, _⟩ => ⟨S16x32x128x2x64, .f32⟩
  | .hbm, ⟨12, _⟩ => ⟨S16x32x128x2x64, .f32⟩
  | .hbm, ⟨13, _⟩ => ⟨S16x32x384x2x64, .f32⟩
  | .hbm, ⟨14, _⟩ => ⟨S16x4096x2x64, .f32⟩
  | .hbm, ⟨15, _⟩ => ⟨S_, .i32⟩
  | .hbm, ⟨16, _⟩ => ⟨S_, .f32⟩
  | .hbm, ⟨17, _⟩ => ⟨S16x4352x2x64, .f32⟩
  | .hbm, ⟨18, _⟩ => ⟨S16x34x128x2x64, .f32⟩
  | .hbm, ⟨19, _⟩ => ⟨S16x32x128x2x64, .f32⟩
  | .hbm, ⟨20, _⟩ => ⟨S16x32x128x2x64, .f32⟩
  | .hbm, ⟨21, _⟩ => ⟨S16x32x128x2x64, .f32⟩
  | .hbm, ⟨22, _⟩ => ⟨S16x32x384x2x64, .f32⟩
  | .hbm, ⟨23, _⟩ => ⟨S16x32x2x384x128x4, .f32⟩
  | .hbm, ⟨24, _⟩ => ⟨S16x32x2x4x128x384, .f32⟩
  | .hbm, ⟨25, _⟩ => ⟨S_, .f32⟩
  | .hbm, ⟨26, _⟩ => ⟨S16x32x2x4x128x384, .f32⟩
  | .hbm, ⟨27, _⟩ => ⟨S16x32x2x4x128x384, .f32⟩
  | .hbm, ⟨28, _⟩ => ⟨S128, .i32⟩
  | .hbm, ⟨29, _⟩ => ⟨S384, .i32⟩
  | .hbm, ⟨30, _⟩ => ⟨S1x384, .i32⟩
  | .hbm, ⟨31, _⟩ => ⟨S_, .i32⟩
  | .hbm, ⟨32, _⟩ => ⟨S1x384, .i32⟩
  | .hbm, ⟨33, _⟩ => ⟨S1x384, .i32⟩
  | .hbm, ⟨34, _⟩ => ⟨S128x1, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S128x384, .i32⟩
  | .hbm, ⟨39, _⟩ => ⟨S128x384, .f32⟩
  | .hbm, ⟨40, _⟩ => ⟨S32, .i32⟩
  | .hbm, ⟨41, _⟩ => ⟨S32x1, .i32⟩
  | .hbm, ⟨42, _⟩ => ⟨S_, .i32⟩
  | .hbm, ⟨43, _⟩ => ⟨S32x1, .i32⟩
  | .hbm, ⟨44, _⟩ => ⟨S32x1, .i32⟩
  | .hbm, ⟨45, _⟩ => ⟨S1x384, .i32⟩
  | .hbm, ⟨46, _⟩ => ⟨S32x384, .i32⟩
  | .hbm, ⟨47, _⟩ => ⟨S32x384, .i32⟩
  | .hbm, ⟨48, _⟩ => ⟨S32x384, .i32⟩
  | .hbm, ⟨49, _⟩ => ⟨S_, .i32⟩
  | .hbm, ⟨50, _⟩ => ⟨S32x384, .i32⟩
  | .hbm, ⟨51, _⟩ => ⟨S32x384, .i32⟩
  | .hbm, ⟨52, _⟩ => ⟨S128x384, .i32⟩
  | .hbm, ⟨53, _⟩ => ⟨S_, .i32⟩
  | .hbm, ⟨54, _⟩ => ⟨S128x384, .i32⟩
  | .hbm, ⟨55, _⟩ => ⟨S128x384, .i1⟩
  | .hbm, ⟨56, _⟩ => ⟨S1x128x384, .i1⟩
  | .hbm, ⟨57, _⟩ => ⟨S_, .i32⟩
  | .hbm, ⟨58, _⟩ => ⟨S32x384, .i32⟩
  | .hbm, ⟨59, _⟩ => ⟨S32x384, .i1⟩
  | .hbm, ⟨60, _⟩ => ⟨S_, .i32⟩
  | .hbm, ⟨61, _⟩ => ⟨S32x384, .i32⟩
  | .hbm, ⟨62, _⟩ => ⟨S32x384, .i1⟩
  | .hbm, ⟨63, _⟩ => ⟨S32x384, .i1⟩
  | .hbm, ⟨64, _⟩ => ⟨S32x1x384, .i1⟩
  | .hbm, ⟨65, _⟩ => ⟨S32x128x384, .i1⟩
  | .hbm, ⟨66, _⟩ => ⟨S32x128x384, .i1⟩
  | .hbm, ⟨67, _⟩ => ⟨S32x128x384, .i1⟩
  | .hbm, ⟨68, _⟩ => ⟨S8, .i32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S2x4, .f32⟩
  | .hbm, ⟨83, _⟩ => ⟨S2x4x1x1, .f32⟩
  | .hbm, ⟨84, _⟩ => ⟨S1x1x128x384, .f32⟩
  | .hbm, ⟨85, _⟩ => ⟨S2x4x128x384, .f32⟩
  | .hbm, ⟨86, _⟩ => ⟨S2x4x128x384, .f32⟩
  | .hbm, ⟨87, _⟩ => ⟨S2x4x128x384, .f32⟩
  | .hbm, ⟨88, _⟩ => ⟨S1x1x2x4x128x384, .f32⟩
  | .hbm, ⟨89, _⟩ => ⟨S16x32x2x4x128x384, .f32⟩
  | .hbm, ⟨90, _⟩ => ⟨S16x32x2x4x128x384, .f32⟩
  | .hbm, ⟨91, _⟩ => ⟨S1x32x1x1x128x384, .i1⟩
  | .hbm, ⟨92, _⟩ => ⟨S_, .f32⟩
  | .hbm, ⟨93, _⟩ => ⟨S_, .f32⟩
  | .hbm, ⟨94, _⟩ => ⟨S16x32x2x4x128x384, .i1⟩
  | .hbm, ⟨95, _⟩ => ⟨S16x32x2x4x128x384, .f32⟩
  | .hbm, ⟨96, _⟩ => ⟨S16x32x2x4x128x384, .f32⟩
  | .hbm, ⟨97, _⟩ => ⟨S2x4, .f32⟩
  | .hbm, ⟨98, _⟩ => ⟨S1x1x2x4x1x1, .f32⟩
  | .hbm, ⟨99, _⟩ => ⟨S_, .f32⟩
  | .hbm, ⟨100, _⟩ => ⟨S16x32x2x4x128, .f32⟩
  | .hbm, ⟨101, _⟩ => ⟨S16x32x2x4x128x1, .f32⟩
  | .hbm, ⟨102, _⟩ => ⟨S16x32x2x4x128x1, .f32⟩
  | .hbm, ⟨103, _⟩ => ⟨S16x32x2x4x128x1, .f32⟩
  | .hbm, ⟨104, _⟩ => ⟨S16x32x2x4x128x384, .f32⟩
  | .hbm, ⟨105, _⟩ => ⟨S16x32x2x4x128x384, .f32⟩
  | .hbm, ⟨106, _⟩ => ⟨S16x32x2x4x128x384, .f32⟩
  | .hbm, ⟨107, _⟩ => ⟨S_, .f32⟩
  | .hbm, ⟨108, _⟩ => ⟨S16x32x2x4x128, .f32⟩
  | .hbm, ⟨109, _⟩ => ⟨S16x32x2x4x128x1, .f32⟩
  | .hbm, ⟨110, _⟩ => ⟨S16x32x2x4x128x1, .f32⟩
  | .hbm, ⟨111, _⟩ => ⟨S16x32x2x4x128x1, .f32⟩
  | .hbm, ⟨112, _⟩ => ⟨S16x32x2x4x128x1, .f32⟩
  | .hbm, ⟨113, _⟩ => ⟨S16x32x2x4x128x1, .f32⟩
  | .hbm, ⟨114, _⟩ => ⟨S16x32x2x4x128x384, .f32⟩
  | .hbm, ⟨115, _⟩ => ⟨S16x32x2x4x128x384, .f32⟩
  | .hbm, ⟨116, _⟩ => ⟨S16x32x2x64x4x128, .f32⟩
  | .hbm, ⟨117, _⟩ => ⟨S16x32x128x2x4x64, .f32⟩
  | .hbm, ⟨118, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Post.lean ====
abbrev S16x4096x1024 : Shape := ⟨3, ![16, 4096, 1024]⟩
abbrev S16x4096x512 : Shape := ⟨3, ![16, 4096, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostIdeal.lean ====
abbrev S16x4096x1024 : Shape := ⟨3, ![16, 4096, 1024]⟩
abbrev S16x4096x512 : Shape := ⟨3, ![16, 4096, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostRefIdeal.lean ====
abbrev S16x4096x1024 : Shape := ⟨3, ![16, 4096, 1024]⟩
abbrev S16x4096x512 : Shape := ⟨3, ![16, 4096, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 86
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096x1, .f32⟩
  | .hbm, ⟨37, _⟩ => ⟨S16x4096x1, .f32⟩
  | .hbm, ⟨38, _⟩ => ⟨S16x4096x1, .f32⟩
  | .hbm, ⟨39, _⟩ => ⟨S16x4096x1024, .f32⟩
  | .hbm, ⟨40, _⟩ => ⟨S16x4096x1024, .f32⟩
  | .hbm, ⟨41, _⟩ => ⟨S1x1x1024, .f32⟩
  | .hbm, ⟨42, _⟩ => ⟨S16x4096x1024, .f32⟩
  | .hbm, ⟨43, _⟩ => ⟨S16x4096x1024, .f32⟩
  | .hbm, ⟨44, _⟩ => ⟨S1x1x1024, .f32⟩
  | .hbm, ⟨45, _⟩ => ⟨S16x4096x1024, .f32⟩
  | .hbm, ⟨46, _⟩ => ⟨S16x4096x1024, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1024, .f32⟩
  | .hbm, ⟨73, _⟩ => ⟨S16x4096x1024, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1, .f32⟩
  | .hbm, ⟨78, _⟩ => ⟨S16x4096x1024, .f32⟩
  | .hbm, ⟨79, _⟩ => ⟨S16x4096x1024, .f32⟩
  | .hbm, ⟨80, _⟩ => ⟨S1x1x1024, .f32⟩
  | .hbm, ⟨81, _⟩ => ⟨S16x4096x1024, .f32⟩
  | .hbm, ⟨82, _⟩ => ⟨S16x4096x1024, .f32⟩
  | .hbm, ⟨83, _⟩ => ⟨S1x1x1024, .f32⟩
  | .hbm, ⟨84, _⟩ => ⟨S16x4096x1024, .f32⟩
  | .hbm, ⟨85, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x1280 : Shape := ⟨2, ![1024, 1280]⟩
abbrev S1024x64 : Shape := ⟨2, ![1024, 64]⟩
abbrev S1024x1024 : Shape := ⟨2, ![1024, 1024]⟩
abbrev S1024x1536 : Shape := ⟨2, ![1024, 1536]⟩
abbrev S1x1024 : Shape := ⟨2, ![1, 1024]⟩
abbrev S16x4096x512 : Shape := ⟨3, ![16, 4096, 512]⟩
abbrev S16x4096x256 : Shape := ⟨3, ![16, 4096, 256]⟩
abbrev S1x512x1024 : Shape := ⟨3, ![1, 512, 1024]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S512x256 : Shape := ⟨2, ![512, 256]⟩

abbrev nBuf : Space → Nat
  | .hbm => 17
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x1280, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x1024, .f32⟩
  | .hbm, ⟨9, _⟩ => ⟨S1024x1536, .f32⟩
  | .hbm, ⟨10, _⟩ => ⟨S1024x1536, .bf16⟩
  | .hbm, ⟨11, _⟩ => ⟨S1x1024, .f32⟩
  | .hbm, ⟨12, _⟩ => ⟨S1x1024, .f32⟩
  | .hbm, ⟨13, _⟩ => ⟨S16x4096x512, .f32⟩
  | .hbm, ⟨14, _⟩ => ⟨S16x4096x512, .bf16⟩
  | .hbm, ⟨15, _⟩ => ⟨S16x4096x256, .bf16⟩
  | .hbm, ⟨16, _⟩ => ⟨S16x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S1x512x512, .f32⟩
  | .local _ .vmem, ⟨6, _⟩ => ⟨S1x512x512, .f32⟩
  | .local _ .vmem, ⟨7, _⟩ => ⟨S1x512x512, .bf16⟩
  | .local _ .vmem, ⟨8, _⟩ => ⟨S1x512x512, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjRefIdeal.lean ====
abbrev S16x4096x1024 : Shape := ⟨3, ![16, 4096, 1024]⟩
abbrev S1024 : Shape := ⟨1, ![1024]⟩
abbrev S1024x1280 : Shape := ⟨2, ![1024, 1280]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1280 : Shape := ⟨3, ![16, 4096, 1280]⟩
abbrev S16x4096x512 : Shape := ⟨3, ![16, 4096, 512]⟩
abbrev S16x4096x128 : Shape := ⟨3, ![16, 4096, 128]⟩
abbrev S16x4096x2x1x64 : Shape := ⟨5, ![16, 4096, 2, 1, 64]⟩
abbrev S16x4096x2x2x64 : Shape := ⟨5, ![16, 4096, 2, 2, 64]⟩
abbrev S16x4096x256 : Shape := ⟨3, ![16, 4096, 256]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x1280, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S16x4096x1280, .f32⟩
  | .hbm, ⟨34, _⟩ => ⟨S16x4096x512, .f32⟩
  | .hbm, ⟨35, _⟩ => ⟨S16x4096x512, .f32⟩
  | .hbm, ⟨36, _⟩ => ⟨S_, .f32⟩
  | .hbm, ⟨37, _⟩ => ⟨S16x4096x512, .f32⟩
  | .hbm, ⟨38, _⟩ => ⟨S16x4096x512, .f32⟩
  | .hbm, ⟨39, _⟩ => ⟨S16x4096x512, .bf16⟩
  | .hbm, ⟨40, _⟩ => ⟨S16x4096x128, .f32⟩
  | .hbm, ⟨41, _⟩ => ⟨S16x4096x2x1x64, .f32⟩
  | .hbm, ⟨42, _⟩ => ⟨S16x4096x2x2x64, .f32⟩
  | .hbm, ⟨43, _⟩ => ⟨S16x4096x256, .f32⟩
  | .hbm, ⟨44, _⟩ => ⟨S16x4096x256, .bf16⟩
  | .hbm, ⟨45, _⟩ => ⟨S16x4096x128, .f32⟩
  | .hbm, ⟨46, _⟩ => ⟨S16x4096x2x1x64, .f32⟩
  | .hbm, ⟨47, _⟩ => ⟨S16x4096x2x2x64, .f32⟩
  | .hbm, ⟨48, _⟩ => ⟨S16x4096x256, .f32⟩
  | .hbm, ⟨49, _⟩ => ⟨S16x4096x256, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Sample.lean ====
abbrev S1x16384x1024 : Shape := ⟨3, ![1, 16384, 1024]⟩
abbrev S1x16384x512 : Shape := ⟨3, ![1, 16384, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SampleRefIdeal.lean ====
abbrev S1x16384x1024 : Shape := ⟨3, ![1, 16384, 1024]⟩
abbrev S1x16384x512 : Shape := ⟨3, ![1, 16384, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4096 : Shape := ⟨3, ![1, 16384, 4096]⟩

abbrev nBuf : Space → Nat
  | .hbm => 86
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S1x16384x1024, .f32⟩
  | .hbm, ⟨13, _⟩ => ⟨S_, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S1x16384x1024, .f32⟩
  | .hbm, ⟨18, _⟩ => ⟨S_, .f32⟩
  | .hbm, ⟨19, _⟩ => ⟨S1x16384, .f32⟩
  | .hbm, ⟨20, _⟩ => ⟨S1x16384x1, .f32⟩
  | .hbm, ⟨21, _⟩ => ⟨S_, .f32⟩
  | .hbm, ⟨22, _⟩ => ⟨S1x16384x1, .f32⟩
  | .hbm, ⟨23, _⟩ => ⟨S1x16384x1, .f32⟩
  | .hbm, ⟨24, _⟩ => ⟨S1x16384x1024, .f32⟩
  | .hbm, ⟨25, _⟩ => ⟨S1x16384x1024, .f32⟩
  | .hbm, ⟨26, _⟩ => ⟨S1x16384x1024, .f32⟩
  | .hbm, ⟨27, _⟩ => ⟨S_, .f32⟩
  | .hbm, ⟨28, _⟩ => ⟨S1x16384, .f32⟩
  | .hbm, ⟨29, _⟩ => ⟨S1x16384x1, .f32⟩
  | .hbm, ⟨30, _⟩ => ⟨S_, .f32⟩
  | .hbm, ⟨31, _⟩ => ⟨S1x16384x1, .f32⟩
  | .hbm, ⟨32, _⟩ => ⟨S1x16384x1, .f32⟩
  | .hbm, ⟨33, _⟩ => ⟨S1x16384x1024, .f32⟩
  | .hbm, ⟨34, _⟩ => ⟨S1x16384x1024, .f32⟩
  | .hbm, ⟨35, _⟩ => ⟨S_, .f32⟩
  | .hbm, ⟨36, _⟩ => ⟨S1x16384x1, .f32⟩
  | .hbm, ⟨37, _⟩ => ⟨S1x16384x1, .f32⟩
  | .hbm, ⟨38, _⟩ => ⟨S1x16384x1, .f32⟩
  | .hbm, ⟨39, _⟩ => ⟨S1x16384x1024, .f32⟩
  | .hbm, ⟨40, _⟩ => ⟨S1x16384x1024, .f32⟩
  | .hbm, ⟨41, _⟩ => ⟨S1x1x1024, .f32⟩
  | .hbm, ⟨42, _⟩ => ⟨S1x16384x1024, .f32⟩
  | .hbm, ⟨43, _⟩ => ⟨S1x16384x1024, .f32⟩
  | .hbm, ⟨44, _⟩ => ⟨S1x1x1024, .f32⟩
  | .hbm, ⟨45, _⟩ => ⟨S1x16384x1024, .f32⟩
  | .hbm, ⟨46, _⟩ => ⟨S1x16384x1024, .f32⟩
  | .hbm, ⟨47, _⟩ => ⟨S1x16384x4096, .f32⟩
  | .hbm, ⟨48, _⟩ => ⟨S_, .f32⟩
  | .hbm, ⟨49, _⟩ => ⟨S1x16384x4096, .f32⟩
  | .hbm, ⟨50, _⟩ => ⟨S1x16384x4096, .f32⟩
  | .hbm, ⟨51, _⟩ => ⟨S1x16384x4096, .f32⟩
  | .hbm, ⟨52, _⟩ => ⟨S_, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S_, .f32⟩
  | .hbm, ⟨58, _⟩ => ⟨S1x16384, .f32⟩
  | .hbm, ⟨59, _⟩ => ⟨S1x16384x1, .f32⟩
  | .hbm, ⟨60, _⟩ => ⟨S_, .f32⟩
  | .hbm, ⟨61, _⟩ => ⟨S1x16384x1, .f32⟩
  | .hbm, ⟨62, _⟩ => ⟨S1x16384x1, .f32⟩
  | .hbm, ⟨63, _⟩ => ⟨S1x16384x1024, .f32⟩
  | .hbm, ⟨64, _⟩ => ⟨S1x16384x1024, .f32⟩
  | .hbm, ⟨65, _⟩ => ⟨S1x16384x1024, .f32⟩
  | .hbm, ⟨66, _⟩ => ⟨S_, .f32⟩
  | .hbm, ⟨67, _⟩ => ⟨S1x16384, .f32⟩
  | .hbm, ⟨68, _⟩ => ⟨S1x16384x1, .f32⟩
  | .hbm, ⟨69, _⟩ => ⟨S_, .f32⟩
  | .hbm, ⟨70, _⟩ => ⟨S1x16384x1, .f32⟩
  | .hbm, ⟨71, _⟩ => ⟨S1x16384x1, .f32⟩
  | .hbm, ⟨72, _⟩ => ⟨S1x16384x1024, .f32⟩
  | .hbm, ⟨73, _⟩ => ⟨S1x16384x1024, .f32⟩
  | .hbm, ⟨74, _⟩ => ⟨S_, .f32⟩
  | .hbm, ⟨75, _⟩ => ⟨S1x16384x1, .f32⟩
  | .hbm, ⟨76, _⟩ => ⟨S1x16384x1, .f32⟩
  | .hbm, ⟨77, _⟩ => ⟨S1x16384x1, .f32⟩
  | .hbm, ⟨78, _⟩ => ⟨S1x16384x1024, .f32⟩
  | .hbm, ⟨79, _⟩ => ⟨S1x16384x1024, .f32⟩
  | .hbm, ⟨80, _⟩ => ⟨S1x1x1024, .f32⟩
  | .hbm, ⟨81, _⟩ => ⟨S1x16384x1024, .f32⟩
  | .hbm, ⟨82, _⟩ => ⟨S1x16384x1024, .f32⟩
  | .hbm, ⟨83, _⟩ => ⟨S1x1x1024, .f32⟩
  | .hbm, ⟨84, _⟩ => ⟨S1x16384x1024, .f32⟩
  | .hbm, ⟨85, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Chan.lean ====
abbrev S16x4096x512 : Shape := ⟨3, ![16, 4096, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S8x8 : Shape := ⟨2, ![8, 8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x1x64 : Shape := ⟨3, ![64, 1, 64]⟩
abbrev S64x2x64 : Shape := ⟨3, ![64, 2, 64]⟩
abbrev S1x64x2x64 : Shape := ⟨4, ![1, 64, 2, 64]⟩
abbrev S2x64x2x64 : Shape := ⟨4, ![2, 64, 2, 64]⟩
abbrev S2x1x64x2x64x1 : Shape := ⟨6, ![2, 1, 64, 2, 64, 1]⟩
abbrev S1x8x1x1x1x8 : Shape := ⟨6, ![1, 8, 1, 1, 1, 8]⟩
abbrev S2x8x64x2x64x8 : Shape := ⟨6, ![2, 8, 64, 2, 64, 8]⟩
abbrev S1024x1024 : Shape := ⟨2, ![1024, 1024]⟩
abbrev S16x64x8x8x512 : Shape := ⟨5, ![16, 64, 8, 8, 512]⟩
abbrev S16x4096x1024 : Shape := ⟨3, ![16, 4096, 1024]⟩
abbrev S1x64x1x8x512 : Shape := ⟨5, ![1, 64, 1, 8, 512]⟩
abbrev S1x512x1024 : Shape := ⟨3, ![1, 512, 1024]⟩
abbrev S64x8x512 : Shape := ⟨3, ![64, 8, 512]⟩
abbrev S512x512 : Shape := ⟨2, ![512, 512]⟩
abbrev S512x128 : Shape := ⟨2, ![512, 128]⟩
abbrev S512x256 : Shape := ⟨2, ![512, 256]⟩
abbrev S1024x512 : Shape := ⟨2, ![1024, 512]⟩
abbrev S1x512x512 : Shape := ⟨3, ![1, 512, 512]⟩

abbrev nBuf : Space → Nat
  | .hbm => 67
  | .vmem => 6
  | .smem => 0
  | _ => 0

abbrev bufTy : (tb : Table) → Fin (tcTables nBuf tb) → BufTy
  | .hbm, ⟨0, _⟩ => ⟨S16x4096x512, .f32⟩
  | .hbm, ⟨1, _⟩ => ⟨S128, .f32⟩
  | .hbm, ⟨2, _⟩ => ⟨S128x1, .f32⟩
  | .hbm, ⟨3, _⟩ => ⟨S1x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .bf16⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S64, .f32⟩
  | .hbm, ⟨29, _⟩ => ⟨S64x1, .f32⟩
  | .hbm, ⟨30, _⟩ => ⟨S1x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S64x1x64, .f32⟩
  | .hbm, ⟨49, _⟩ => ⟨S64x1x64, .f32⟩
  | .hbm, ⟨50, _⟩ => ⟨S64x2x64, .f32⟩
  | .hbm, ⟨51, _⟩ => ⟨S64x64, .f32⟩
  | .hbm, ⟨52, _⟩ => ⟨S64x1x64, .f32⟩
  | .hbm, ⟨53, _⟩ => ⟨S64x1x64, .f32⟩
  | .hbm, ⟨54, _⟩ => ⟨S64x2x64, .f32⟩
  | .hbm, ⟨55, _⟩ => ⟨S1x64x2x64, .f32⟩
  | .hbm, ⟨56, _⟩ => ⟨S1x64x2x64, .f32⟩
  | .hbm, ⟨57, _⟩ => ⟨S2x64x2x64, .f32⟩
  | .hbm, ⟨58, _⟩ => ⟨S2x1x64x2x64x1, .f32⟩
  | .hbm, ⟨59, _⟩ => ⟨S1x8x1x1x1x8, .f32⟩
  | .hbm, ⟨60, _⟩ => ⟨S2x8x64x2x64x8, .f32⟩
  | .hbm, ⟨61, _⟩ => ⟨S2x8x64x2x64x8, .f32⟩
  | .hbm, ⟨62, _⟩ => ⟨S2x8x64x2x64x8, .f32⟩
  | .hbm, ⟨63, _⟩ => ⟨S1024x1024, .f32⟩
  | .hbm, ⟨64, _⟩ => ⟨S1024x1024, .bf16⟩
  | .hbm, ⟨65, _⟩ => ⟨S16x64x8x8x512, .f32⟩
  | .hbm, ⟨66, _⟩ => ⟨S16x4096x1024, .f32⟩
  | .local _ .vmem, ⟨0, _⟩ => ⟨S1x64x1x8x512, .f32⟩
  | .local _ .vmem, ⟨1, _⟩ => ⟨S1x64x1x8x512, .f32⟩
  | .local _ .vmem, ⟨2, _⟩ => ⟨S128x256, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChanRefIdeal.lean ====
abbrev S16x4096x512 : Shape := ⟨3, ![16, 4096, 512]⟩
abbrev S16x64x64x4x128 : Shape := ⟨5, ![16, 64, 64, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x64x4x128x64 : Shape := ⟨5, ![16, 64, 4, 128, 64]⟩
abbrev S16x4096x1024 : Shape := ⟨3, ![16, 4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x64x64x4x128, .f32⟩
  | .hbm, ⟨2, _⟩ => ⟨S128, .f32⟩
  | .hbm, ⟨3, _⟩ => ⟨S128x1, .f32⟩
  | .hbm, ⟨4, _⟩ => ⟨S1x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S16x64x64x4x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S16x64x64x4x128, .f32⟩
  | .hbm, ⟨25, _⟩ => ⟨S64, .f32⟩
  | .hbm, ⟨26, _⟩ => ⟨S64x1, .f32⟩
  | .hbm, ⟨27, _⟩ => ⟨S1x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S16x64x4x128x64, .f32⟩
  | .hbm, ⟨46, _⟩ => ⟨S16x64x64x4x128, .f32⟩
  | .hbm, ⟨47, _⟩ => ⟨S16x64x4x128x64, .f32⟩
  | .hbm, ⟨48, _⟩ => ⟨S16x64x64x4x128, .f32⟩
  | .hbm, ⟨49, _⟩ => ⟨S16x64x64x4x128, .f32⟩
  | .hbm, ⟨50, _⟩ => ⟨S64x64, .f32⟩
  | .hbm, ⟨51, _⟩ => ⟨S16x64x4x128x64, .f32⟩
  | .hbm, ⟨52, _⟩ => ⟨S16x64x64x4x128, .f32⟩
  | .hbm, ⟨53, _⟩ => ⟨S16x64x4x128x64, .f32⟩
  | .hbm, ⟨54, _⟩ => ⟨S16x64x64x4x128, .f32⟩
  | .hbm, ⟨55, _⟩ => ⟨S16x64x64x4x128, .f32⟩
  | .hbm, ⟨56, _⟩ => ⟨S16x4096x512, .f32⟩
  | .hbm, ⟨57, _⟩ => ⟨S16x4096x512, .f32⟩
  | .hbm, ⟨58, _⟩ => ⟨S16x4096x1024, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_6 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Posn.lean ====
abbrev S16x4096x1024 : Shape := ⟨3, ![16, 4096, 1024]⟩
abbrev S4x128x128 : Shape := ⟨3, ![4, 128, 128]⟩
abbrev S8x8 : Shape := ⟨2, ![8, 8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S64x1x64 : Shape := ⟨3, ![64, 1, 64]⟩
abbrev S64x64x64 : Shape := ⟨3, ![64, 64, 64]⟩
abbrev S1x64x64x64 : Shape := ⟨4, ![1, 64, 64, 64]⟩
abbrev S2x64x64x64 : Shape := ⟨4, ![2, 64, 64, 64]⟩
abbrev S2x8x8x64x64 : Shape := ⟨5, ![2, 8, 8, 64, 64]⟩
abbrev S8x64x8x2x64 : Shape := ⟨5, ![8, 64, 8, 2, 64]⟩
abbrev S8x64x8x2x64x1 : Shape := ⟨6, ![8, 64, 8, 2, 64, 1]⟩
abbrev S1x1x8x1x1x8 : Shape := ⟨6, ![1, 1, 8, 1, 1, 8]⟩
abbrev S8x64x8x2x64x8 : Shape := ⟨6, ![8, 64, 8, 2, 64, 8]⟩
abbrev S8x512x1024 : Shape := ⟨3, ![8, 512, 1024]⟩
abbrev S16x64x8x8x1024 : Shape := ⟨5, ![16, 64, 8, 8, 1024]⟩
abbrev S16x64x8x8x512 : Shape := ⟨5, ![16, 64, 8, 8, 512]⟩
abbrev S1x64x1x8x1024 : Shape := ⟨5, ![1, 64, 1, 8, 1024]⟩
abbrev S1x512x1024 : Shape := ⟨3, ![1, 512, 1024]⟩
abbrev S1x64x1x8x512 : Shape := ⟨5, ![1, 64, 1, 8, 512]⟩
abbrev S64x8x1024 : Shape := ⟨3, ![64, 8, 1024]⟩
abbrev S512x1024 : Shape := ⟨2, ![512, 1024]⟩
abbrev S512x512 : Shape := ⟨2, ![512, 512]⟩
abbrev S1024x512 : Shape := ⟨2, ![1024, 512]⟩
abbrev S512x128 : Shape := ⟨2, ![512, 128]⟩
abbrev S1x128x128 : Shape := ⟨3, ![1, 128, 128]⟩
abbrev S128x128 : Shape := ⟨2, ![128, 128]⟩
abbrev S64x8x512 : Shape := ⟨3, ![64, 8, 512]⟩

abbrev nBuf : Space → Nat
  | .hbm => 80
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S4x128x128, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S1x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x1, .f32⟩
  | .hbm, ⟨31, _⟩ => ⟨S1x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S1x64x64, .f32⟩
  | .hbm, ⟨44, _⟩ => ⟨S64x1x64, .f32⟩
  | .hbm, ⟨45, _⟩ => ⟨S64x64x64, .f32⟩
  | .hbm, ⟨46, _⟩ => ⟨S64x64x64, .f32⟩
  | .hbm, ⟨47, _⟩ => ⟨S64x64x64, .f32⟩
  | .hbm, ⟨48, _⟩ => ⟨S1x64x64, .f32⟩
  | .hbm, ⟨49, _⟩ => ⟨S64x1x64, .f32⟩
  | .hbm, ⟨50, _⟩ => ⟨S64x64x64, .f32⟩
  | .hbm, ⟨51, _⟩ => ⟨S64x64x64, .f32⟩
  | .hbm, ⟨52, _⟩ => ⟨S64x64x64, .f32⟩
  | .hbm, ⟨53, _⟩ => ⟨S64x64x64, .f32⟩
  | .hbm, ⟨54, _⟩ => ⟨S1x64x64, .f32⟩
  | .hbm, ⟨55, _⟩ => ⟨S64x1x64, .f32⟩
  | .hbm, ⟨56, _⟩ => ⟨S64x64x64, .f32⟩
  | .hbm, ⟨57, _⟩ => ⟨S64x64x64, .f32⟩
  | .hbm, ⟨58, _⟩ => ⟨S64x64x64, .f32⟩
  | .hbm, ⟨59, _⟩ => ⟨S1x64x64, .f32⟩
  | .hbm, ⟨60, _⟩ => ⟨S64x1x64, .f32⟩
  | .hbm, ⟨61, _⟩ => ⟨S64x64x64, .f32⟩
  | .hbm, ⟨62, _⟩ => ⟨S64x64x64, .f32⟩
  | .hbm, ⟨63, _⟩ => ⟨S64x64x64, .f32⟩
  | .hbm, ⟨64, _⟩ => ⟨S64x64x64, .f32⟩
  | .hbm, ⟨65, _⟩ => ⟨S1x64x64x64, .f32⟩
  | .hbm, ⟨66, _⟩ => ⟨S1x64x64x64, .f32⟩
  | .hbm, ⟨67, _⟩ => ⟨S2x64x64x64, .f32⟩
  | .hbm, ⟨68, _⟩ => ⟨S2x8x8x64x64, .f32⟩
  | .hbm, ⟨69, _⟩ => ⟨S8x64x8x2x64, .f32⟩
  | .hbm, ⟨70, _⟩ => ⟨S8x64x8x2x64x1, .f32⟩
  | .hbm, ⟨71, _⟩ => ⟨S1x1x8x1x1x8, .f32⟩
  | .hbm, ⟨72, _⟩ => ⟨S8x64x8x2x64x8, .f32⟩
  | .hbm, ⟨73, _⟩ => ⟨S8x64x8x2x64x8, .f32⟩
  | .hbm, ⟨74, _⟩ => ⟨S8x64x8x2x64x8, .f32⟩
  | .hbm, ⟨75, _⟩ => ⟨S8x512x1024, .f32⟩
  | .hbm, ⟨76, _⟩ => ⟨S8x512x1024, .bf16⟩
  | .hbm, ⟨77, _⟩ => ⟨S4x128x128, .bf16⟩
  | .hbm, ⟨78, _⟩ => ⟨S16x64x8x8x1024, .f32⟩
  | .hbm, ⟨79, _⟩ => ⟨S16x64x8x8x512, .f32⟩
  | .local _ .vmem, ⟨0, _⟩ => ⟨S1x64x1x8x1024, .f32⟩
  | .local _ .vmem, ⟨1, _⟩ => ⟨S1x64x1x8x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S4x128x128, .bf16⟩
  | .local _ .vmem, ⟨5, _⟩ => ⟨S1x64x1x8x512, .f32⟩
  | .local _ .vmem, ⟨6, _⟩ => ⟨S1x64x1x8x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x64x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PosnRefIdeal.lean ====
abbrev S16x4096x1024 : Shape := ⟨3, ![16, 4096, 1024]⟩
abbrev S4x128x128 : Shape := ⟨3, ![4, 128, 128]⟩
abbrev S16x64x64x2x512 : Shape := ⟨5, ![16, 64, 64, 2, 512]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S_ : Shape := ⟨0, ![]⟩
abbrev S64x64x64 : Shape := ⟨3, ![64, 64, 64]⟩
abbrev S16x64x64x1x512 : Shape := ⟨5, ![16, 64, 64, 1, 512]⟩
abbrev S16x64x64x512 : Shape := ⟨4, ![16, 64, 64, 512]⟩
abbrev S64x16x512x64 : Shape := ⟨4, ![64, 16, 512, 64]⟩
abbrev S16x4096x4x128 : Shape := ⟨4, ![16, 4096, 4, 128]⟩
abbrev S4x128x16x4096 : Shape := ⟨4, ![4, 128, 16, 4096]⟩
abbrev S16x64x8x8x512 : Shape := ⟨5, ![16, 64, 8, 8, 512]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x128x128, .f32⟩
  | .hbm, ⟨2, _⟩ => ⟨S16x64x64x2x512, .f32⟩
  | .hbm, ⟨3, _⟩ => ⟨S64, .f32⟩
  | .hbm, ⟨4, _⟩ => ⟨S4096, .f32⟩
  | .hbm, ⟨5, _⟩ => ⟨S4096x1, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S64x64x64, .f32⟩
  | .hbm, ⟨17, _⟩ => ⟨S64x64x64, .f32⟩
  | .hbm, ⟨18, _⟩ => ⟨S_, .f32⟩
  | .hbm, ⟨19, _⟩ => ⟨S64x64x64, .f32⟩
  | .hbm, ⟨20, _⟩ => ⟨S64x64x64, .f32⟩
  | .hbm, ⟨21, _⟩ => ⟨S64x64x64, .f32⟩
  | .hbm, ⟨22, _⟩ => ⟨S_, .f32⟩
  | .hbm, ⟨23, _⟩ => ⟨S64x64x64, .f32⟩
  | .hbm, ⟨24, _⟩ => ⟨S64x64x64, .f32⟩
  | .hbm, ⟨25, _⟩ => ⟨S16x64x64x1x512, .f32⟩
  | .hbm, ⟨26, _⟩ => ⟨S16x64x64x512, .f32⟩
  | .hbm, ⟨27, _⟩ => ⟨S64x16x512x64, .f32⟩
  | .hbm, ⟨28, _⟩ => ⟨S16x64x64x512, .f32⟩
  | .hbm, ⟨29, _⟩ => ⟨S16x64x64x1x512, .f32⟩
  | .hbm, ⟨30, _⟩ => ⟨S16x64x64x512, .f32⟩
  | .hbm, ⟨31, _⟩ => ⟨S64x16x512x64, .f32⟩
  | .hbm, ⟨32, _⟩ => ⟨S16x64x64x512, .f32⟩
  | .hbm, ⟨33, _⟩ => ⟨S16x64x64x512, .f32⟩
  | .hbm, ⟨34, _⟩ => ⟨S16x4096x4x128, .f32⟩
  | .hbm, ⟨35, _⟩ => ⟨S4x128x16x4096, .f32⟩
  | .hbm, ⟨36, _⟩ => ⟨S16x4096x4x128, .f32⟩
  | .hbm, ⟨37, _⟩ => ⟨S16x64x8x8x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== First.lean ====
abbrev S16x4096x1024 : Shape := ⟨3, ![16, 4096, 1024]⟩
abbrev S16x4096x512 : Shape := ⟨3, ![16, 4096, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FirstRefIdeal.lean ====
abbrev S16x4096x1024 : Shape := ⟨3, ![16, 4096, 1024]⟩
abbrev S16x4096x512 : Shape := ⟨3, ![16, 4096, 512]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 115
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1, .f32⟩
  | .hbm, ⟨33, _⟩ => ⟨S16x4096x1024, .f32⟩
  | .hbm, ⟨34, _⟩ => ⟨S16x4096x1024, .f32⟩
  | .hbm, ⟨35, _⟩ => ⟨S1x1x1024, .f32⟩
  | .hbm, ⟨36, _⟩ => ⟨S16x4096x1024, .f32⟩
  | .hbm, ⟨37, _⟩ => ⟨S16x4096x1024, .f32⟩
  | .hbm, ⟨38, _⟩ => ⟨S1x1x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S_, .f32⟩
  | .hbm, ⟨48, _⟩ => ⟨S16x4096, .f32⟩
  | .hbm, ⟨49, _⟩ => ⟨S16x4096x1, .f32⟩
  | .hbm, ⟨50, _⟩ => ⟨S_, .f32⟩
  | .hbm, ⟨51, _⟩ => ⟨S16x4096x1, .f32⟩
  | .hbm, ⟨52, _⟩ => ⟨S16x4096x1, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S_, .f32⟩
  | .hbm, ⟨57, _⟩ => ⟨S16x4096, .f32⟩
  | .hbm, ⟨58, _⟩ => ⟨S16x4096x1, .f32⟩
  | .hbm, ⟨59, _⟩ => ⟨S_, .f32⟩
  | .hbm, ⟨60, _⟩ => ⟨S16x4096x1, .f32⟩
  | .hbm, ⟨61, _⟩ => ⟨S16x4096x1, .f32⟩
  | .hbm, ⟨62, _⟩ => ⟨S16x4096x1024, .f32⟩
  | .hbm, ⟨63, _⟩ => ⟨S16x4096x1024, .f32⟩
  | .hbm, ⟨64, _⟩ => ⟨S_, .f32⟩
  | .hbm, ⟨65, _⟩ => ⟨S16x4096x1, .f32⟩
  | .hbm, ⟨66, _⟩ => ⟨S16x4096x1, .f32⟩
  | .hbm, ⟨67, _⟩ => ⟨S16x4096x1, .f32⟩
  | .hbm, ⟨68, _⟩ => ⟨S16x4096x1024, .f32⟩
  | .hbm, ⟨69, _⟩ => ⟨S16x4096x1024, .f32⟩
  | .hbm, ⟨70, _⟩ => ⟨S1x1x1024, .f32⟩
  | .hbm, ⟨71, _⟩ => ⟨S16x4096x1024, .f32⟩
  | .hbm, ⟨72, _⟩ => ⟨S16x4096x1024, .f32⟩
  | .hbm, ⟨73, _⟩ => ⟨S1x1x1024, .f32⟩
  | .hbm, ⟨74, _⟩ => ⟨S16x4096x1024, .f32⟩
  | .hbm, ⟨75, _⟩ => ⟨S16x4096x1024, .f32⟩
  | .hbm, ⟨76, _⟩ => ⟨S16x4096x4096, .f32⟩
  | .hbm, ⟨77, _⟩ => ⟨S_, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096x1024, .f32⟩
  | .hbm, ⟨83, _⟩ => ⟨S16x4096x1024, .f32⟩
  | .hbm, ⟨84, _⟩ => ⟨S16x4096x1024, .f32⟩
  | .hbm, ⟨85, _⟩ => ⟨S16x4096x1024, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S_, .f32⟩
  | .hbm, ⟨90, _⟩ => ⟨S16x4096x1, .f32⟩
  | .hbm, ⟨91, _⟩ => ⟨S16x4096x1, .f32⟩
  | .hbm, ⟨92, _⟩ => ⟨S16x4096x1024, .f32⟩
  | .hbm, ⟨93, _⟩ => ⟨S16x4096x1024, .f32⟩
  | .hbm, ⟨94, _⟩ => ⟨S16x4096x1024, .f32⟩
  | .hbm, ⟨95, _⟩ => ⟨S_, .f32⟩
  | .hbm, ⟨96, _⟩ => ⟨S16x4096, .f32⟩
  | .hbm, ⟨97, _⟩ => ⟨S16x4096x1, .f32⟩
  | .hbm, ⟨98, _⟩ => ⟨S_, .f32⟩
  | .hbm, ⟨99, _⟩ => ⟨S16x4096x1, .f32⟩
  | .hbm, ⟨100, _⟩ => ⟨S16x4096x1, .f32⟩
  | .hbm, ⟨101, _⟩ => ⟨S16x4096x1024, .f32⟩
  | .hbm, ⟨102, _⟩ => ⟨S16x4096x1024, .f32⟩
  | .hbm, ⟨103, _⟩ => ⟨S_, .f32⟩
  | .hbm, ⟨104, _⟩ => ⟨S16x4096x1, .f32⟩
  | .hbm, ⟨105, _⟩ => ⟨S16x4096x1, .f32⟩
  | .hbm, ⟨106, _⟩ => ⟨S16x4096x1, .f32⟩
  | .hbm, ⟨107, _⟩ => ⟨S16x4096x1024, .f32⟩
  | .hbm, ⟨108, _⟩ => ⟨S16x4096x1024, .f32⟩
  | .hbm, ⟨109, _⟩ => ⟨S1x1x1024, .f32⟩
  | .hbm, ⟨110, _⟩ => ⟨S16x4096x1024, .f32⟩
  | .hbm, ⟨111, _⟩ => ⟨S16x4096x1024, .f32⟩
  | .hbm, ⟨112, _⟩ => ⟨S1x1x1024, .f32⟩
  | .hbm, ⟨113, _⟩ => ⟨S16x4096x1024, .f32⟩
  | .hbm, ⟨114, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]
-- ==== Proof.LayerMath.lean ====
/- The mathematics of one row of the layer over the extended reals: layer normalisation and the
   squared-ReLU MLP, as functions of rows. -/
module

public import Idealize.ShloMosaic.PureOps.Ideal
public import Idealize.ShloMosaic.Lib.Pointwise

@[expose] public section

noncomputable section

namespace LayerMath

open Idealize.ShloMosaic

/-- The mean of a row of 1024. -/
def mean (y : Fin 1024 → EReal) : EReal := Ideal.div (∑ k, y k) (Ideal.ofBits .f32 0x44800000#32)

/-- A row less its mean. -/
def centred (y : Fin 1024 → EReal) (j : Fin 1024) : EReal := y j - mean y

/-- Layer normalisation of a row with gain `g` and offset `b`. -/
def ln (y g b : Fin 1024 → EReal) (j : Fin 1024) : EReal :=
  centred y j * Ideal.rsqrt (mean (fun k => centred y k * centred y k) + Ideal.ofBits .f32 0x3727C5AC#32) * g j + b j

/-- A row before its normalisation: the scaled residual and the branch's output. -/
def residual (x z : Fin 1024 → EReal) (j : Fin 1024) : EReal := Ideal.ofBits .f32 0x3FB504F3#32 * x j + z j

/-- A row through a matrix of 1024 columns. -/
def through {n : Nat} (h : Fin n → EReal) (w : Fin n → Fin 1024 → EReal) (j : Fin 1024) : EReal := ∑ k, h k * w k j

/-- One hidden unit of the MLP: the squared positive part of a product. -/
def hidden {n : Nat} (x : Fin 1024 → EReal) (w : Fin 1024 → Fin n → EReal) (f : Fin n) : EReal :=
  max (∑ k, x k * w k f) 0 * max (∑ k, x k * w k f) 0

/-- The heads of a row, 512 Fourier channels and 512 attention channels, through the output matrix. -/
def headsOut (f a : Fin 512 → EReal) (wo : Fin 1024 → Fin 1024 → EReal) (j : Fin 1024) : EReal :=
  ∑ k : Fin 512, f k * wo ⟨k.val, by omega⟩ j + ∑ k : Fin 512, a k * wo ⟨512 + k.val, by omega⟩ j

/-- The row after the mixing branch. -/
def mixed (x : Fin 1024 → EReal) (f a : Fin 512 → EReal) (wo : Fin 1024 → Fin 1024 → EReal)
    (g b : Fin 1024 → EReal) : Fin 1024 → EReal :=
  ln (residual x (headsOut f a wo)) g b

/-- The row after the MLP. -/
def afterMlp (x : Fin 1024 → EReal) (w1 : Fin 1024 → Fin 4096 → EReal) (w2 : Fin 4096 → Fin 1024 → EReal)
    (g b : Fin 1024 → EReal) : Fin 1024 → EReal :=
  ln (residual x (through (hidden x w1) w2)) g b

/-- The MLP's product over 4096 hidden units is the sum of its products over four tiles of 1024. -/
theorem through_tiles (h : Fin 4096 → EReal) (w : Fin 4096 → Fin 1024 → EReal) (j : Fin 1024) :
    through h w j = (((∑ k : Fin 1024, h ⟨k.val, by omega⟩ * w ⟨k.val, by omega⟩ j)
      + ∑ k : Fin 1024, h ⟨1024 + k.val, by omega⟩ * w ⟨1024 + k.val, by omega⟩ j)
      + ∑ k : Fin 1024, h ⟨2048 + k.val, by omega⟩ * w ⟨2048 + k.val, by omega⟩ j)
      + ∑ k : Fin 1024, h ⟨3072 + k.val, by omega⟩ * w ⟨3072 + k.val, by omega⟩ j := by
  have e := Fin.sum_univ_tiles 4 1024 rfl (fun k : Fin (4 * 1024) => h k * w k j)
  unfold through
  refine e.trans ?_
  rw [Fin.sum_univ_four]
  refine congrArg₂ (· + ·) (congrArg₂ (· + ·) (congrArg₂ (· + ·) ?_ ?_) ?_) ?_ <;>
    refine Finset.sum_congr rfl fun k _ => ?_ <;>
    refine congrArg₂ (· * ·) (congrArg h (Fin.ext ?_)) (congrArg (fun i => w i j) (Fin.ext ?_)) <;>
    simp

end LayerMath

end
-- ==== Proof.PostPay.lean ====
module

public import proofs.«01_k».proof.Proof.Gen.PostIdeal.Skeleton
public import proofs.«01_k».proof.Proof.LayerMath
public import Idealize.ShloMosaic.Lib.Pointwise

@[expose] public section

set_option maxRecDepth 16384

noncomputable section

open Idealize.ShloMosaic Idealize.ShloMosaic.TcCoe Idealize.SL.Sem

namespace Cert.PostIdeal.Pay
open Cert.PostIdeal Cert.PostIdeal.Gen LayerMath

/-- The first row-wise stage: the mixed row, scaled by its gain. -/
theorem pay2_at (x : FVec Ideal S1x512x1024 .f32) (f a : FVec Ideal S1x512x512 .f32) (wo : FVec Ideal S1024x1024 .bf16)
    (g b : FVec Ideal S1x1024 .f32) (r : Fin 512) (j : Fin 1024) :
    k0_pay3 (k0_pay1 b) (k0_pay2 (F := Ideal) x f a wo g) (ix2 r j)
      = mixed (fun k => x (ix3 0 r k)) (fun k => f (ix3 0 r k)) (fun k => a (ix3 0 r k))
          (fun k l => wo (ix2 k l)) (fun k => g (ix2 0 k)) (fun k => b (ix2 0 k)) j := by
  pointwise [k0_pay1, k0_pay2, k0_pay3]
  rfl

/-- The second stage: the MLP in four tiles of its hidden units, the residual and the last normalisation. -/
theorem pay7_at (b : FVec Ideal S1x1024 .f32) (p : FVec Ideal S512x1024 .f32)
    (u0 u1 u2 u3 d0 d1 d2 d3 : FVec Ideal S1024x1024 .bf16)
    (g2 b2 : FVec Ideal S1x1024 .f32) (r : Fin 512) (j : Fin 1024) :
    k0_pay7 (k0_pay3 b p) (k0_pay4 b p) (k0_pay5 (F := Ideal) b p u0 d0 u1 d1 u2 d2) (k0_pay6 u3) d3 g2 b2 (ix3 0 r j)
      = ln (residual (fun k => k0_pay3 b p (ix2 r k)) (fun l => through (hidden (fun k => k0_pay3 b p (ix2 r k)) (fun k l => u0 (ix2 k l))) (fun k l => d0 (ix2 k l)) l
         + through (hidden (fun k => k0_pay3 b p (ix2 r k)) (fun k l => u1 (ix2 k l))) (fun k l => d1 (ix2 k l)) l
         + through (hidden (fun k => k0_pay3 b p (ix2 r k)) (fun k l => u2 (ix2 k l))) (fun k l => d2 (ix2 k l)) l
         + through (hidden (fun k => k0_pay3 b p (ix2 r k)) (fun k l => u3 (ix2 k l))) (fun k l => d3 (ix2 k l)) l))
          (fun k => g2 (ix2 0 k)) (fun k => b2 (ix2 0 k)) j := by
  have h4 : k0_pay4 b p = k0_pay3 (F := Ideal) b p := by
    funext i; idx_vars i; pointwise [k0_pay4]
  pointwise [k0_pay7, k0_pay5, k0_pay6, h4]
  rfl

end Cert.PostIdeal.Pay
end
-- ==== Proof.PostBody.lean ====
/- What one grid point of the post kernel stores, from its blocks alone: each row after the output
   projection, the residual normalisation and the MLP. -/
module

public import proofs.«01_k».proof.Proof.Gen.PostIdeal.Value
public import proofs.«01_k».proof.Proof.PostPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PostIdeal.Body
open Cert.PostIdeal Cert.PostIdeal.Gen Cert.PostIdeal.Value LayerMath

variable (u : Vec Ideal S1024x4096 .bf16) (d : Vec Ideal S4096x1024 .bf16) (k l : Fin 1024)

/-- Tile 0 of the first MLP matrix. -/
theorem up0_at : View.ld u r0_4 (ix2 k l) = u (ix2 k ⟨l.val, by omega⟩) := by pointwise []; blk_ext
/-- Tile 1 of the first MLP matrix. -/
theorem up1_at : View.ld u r0_6 (ix2 k l) = u (ix2 k ⟨1024 + l.val, by omega⟩) := by pointwise []; blk_ext
/-- Tile 2 of the first MLP matrix. -/
theorem up2_at : View.ld u r0_8 (ix2 k l) = u (ix2 k ⟨2048 + l.val, by omega⟩) := by pointwise []; blk_ext
/-- Tile 3 of the first MLP matrix. -/
theorem up3_at : View.ld u r0_10 (ix2 k l) = u (ix2 k ⟨3072 + l.val, by omega⟩) := by pointwise []; blk_ext
/-- Tile 0 of the second MLP matrix. -/
theorem down0_at : View.ld d r0_5 (ix2 k l) = d (ix2 ⟨k.val, by omega⟩ l) := by pointwise []; blk_ext
/-- Tile 1 of the second MLP matrix. -/
theorem down1_at : View.ld d r0_7 (ix2 k l) = d (ix2 ⟨1024 + k.val, by omega⟩ l) := by pointwise []; blk_ext
/-- Tile 2 of the second MLP matrix. -/
theorem down2_at : View.ld d r0_9 (ix2 k l) = d (ix2 ⟨2048 + k.val, by omega⟩ l) := by pointwise []; blk_ext
/-- Tile 3 of the second MLP matrix. -/
theorem down3_at : View.ld d r0_11 (ix2 k l) = d (ix2 ⟨3072 + k.val, by omega⟩ l) := by pointwise []; blk_ext

/-- One tile of the hidden units, in terms of the whole matrices. -/
theorem tile_sum (x : Fin 1024 → EReal) (i : Fin 1024 → Fin 4096) (u' d' : Fin 1024 → Fin 1024 → EReal) (u : Fin 1024 → Fin 4096 → EReal)
    (d : Fin 4096 → Fin 1024 → EReal) (hu : ∀ k l, u' k l = u k (i l)) (hd : ∀ k l, d' k l = d (i k) l) (l : Fin 1024) :
    through (hidden x u') d' l = ∑ k, hidden x u (i k) * d (i k) l := by
  obtain rfl : u' = fun k l => u k (i l) := funext fun k => funext fun l => hu k l
  obtain rfl : d' = fun k l => d (i k) l := funext fun k => funext fun l => hd k l
  rfl

/-- A stored row is the row after the mixing branch and the MLP. -/
theorem body_at (x : Vec Ideal S1x512x1024 .f32) (f a : Vec Ideal S1x512x512 .f32) (eg eb : Vec Ideal S1x1024 .f32)
    (wo : Vec Ideal S1024x1024 .bf16) (g b : Vec Ideal S1x1024 .f32) (g2 b2 : Vec Ideal S1x1024 .f32) (r : Fin 512) (j : Fin 1024) :
    out0_12 (F := Ideal) x f a eg eb wo g b u d g2 b2 (ix3 0 r j)
      = afterMlp (mixed (fun k => x (ix3 0 r k)) (fun k => f (ix3 0 r k)) (fun k => a (ix3 0 r k))
          (fun k l => wo (ix2 k l)) (fun k => g (ix2 0 k)) (fun k => b (ix2 0 k)))
          (fun k l => u (ix2 k l)) (fun k l => d (ix2 k l)) (fun k => g2 (ix2 0 k)) (fun k => b2 (ix2 0 k)) j := by
  unfold out0_12 k0_pay9 k0_pay8
  frame_out
  rw [Pay.pay7_at]
  simp only [Pay.pay2_at]
  unfold afterMlp
  refine congrArg (fun z => ln (residual _ z) _ _ j) (funext fun l => ?_)
  rw [through_tiles]
  refine congrArg₂ (· + ·) (congrArg₂ (· + ·) (congrArg₂ (· + ·) ?_ ?_) ?_) ?_
  · exact tile_sum _ (fun k => ⟨k.val, by omega⟩) _ _ (fun k l => u (ix2 k l)) (fun k l => d (ix2 k l)) (up0_at u) (down0_at d) l
  · exact tile_sum _ (fun k => ⟨1024 + k.val, by omega⟩) _ _ (fun k l => u (ix2 k l)) (fun k l => d (ix2 k l)) (up1_at u) (down1_at d) l
  · exact tile_sum _ (fun k => ⟨2048 + k.val, by omega⟩) _ _ (fun k l => u (ix2 k l)) (fun k l => d (ix2 k l)) (up2_at u) (down2_at d) l
  · exact tile_sum _ (fun k => ⟨3072 + k.val, by omega⟩) _ _ (fun k l => u (ix2 k l)) (fun k l => d (ix2 k l)) (up3_at u) (down3_at d) l

end Cert.PostIdeal.Body
end
-- ==== Proof.PostRefRow.lean ====
module

public import proofs.«01_k».proof.Proof.Gen.PostRefIdeal.Read
public import proofs.«01_k».proof.Proof.LayerMath
public import Idealize.ShloMosaic.Lib.Pointwise

@[expose] public section

set_option maxRecDepth 16384

noncomputable section

open Idealize.ShloMosaic Idealize.ShloMosaic.TcCoe Idealize.SL.Sem

namespace Cert.PostRefIdeal.Row
open Cert.PostRefIdeal Cert.PostRefIdeal.Gen Cert.PostRefIdeal.Read LayerMath

/-- The additions over a row begin at zero. -/
theorem start0 (i : S_.Idx) : val_main_cst_0 (F := Ideal) i = 0 := Ideal.ofBits_zero .f32

variable (x : FVec Ideal S16x4096x1024 .f32) (f a : FVec Ideal S16x4096x512 .f32) (wo : FVec Ideal S1024x1024 .f32)
  (g b g2 b2 : FVec Ideal S1024 .f32) (w1 : FVec Ideal S1024x4096 .f32) (w2 : FVec Ideal S4096x1024 .f32)

/-- The reference's row after its mixing branch. -/
theorem mixed_at (n : Fin 16) (s : Fin 4096) (j : Fin 1024) :
    val_main_v28 (F := Ideal) x f a wo g b (ix3 n s j)
      = mixed (fun k => x (ix3 n s k)) (fun k => f (ix3 n s k)) (fun k => a (ix3 n s k))
          (fun k l => wo (ix2 k l)) (fun k => g (ix1 k)) (fun k => b (ix1 k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_1, val_main_cst_2, val_main_cst_3, val_main_cst_4]
  simp only [start0, zero_add]
  rfl

/-- The reference's row after its MLP branch. -/
theorem after_at (n : Fin 16) (s : Fin 4096) (j : Fin 1024) :
    val_main_v60 (F := Ideal) x f a wo g b w1 w2 g2 b2 (ix3 n s j)
      = afterMlp (fun k => val_main_v28 (F := Ideal) x f a wo g b (ix3 n s k)) (fun k l => w1 (ix2 k l))
          (fun k l => w2 (ix2 k l)) (fun k => g2 (ix1 k)) (fun k => b2 (ix1 k)) j := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_5, val_main_cst_6, val_main_cst_7, val_main_cst_8, val_main_cst_9, val_main_cst_10, val_main_cst_11]
  rfl

end Cert.PostRefIdeal.Row
end
-- ==== Proof.PostVal.lean ====
/- The value of the post kernel: the row after the output projection, the residual normalisation and the MLP. -/
module

public import proofs.«01_k».proof.Proof.Gen.PostIdeal.Value
public import proofs.«01_k».proof.Proof.PostBody
public import proofs.«01_k».proof.Proof.PostRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PostIdeal.Bridge
open Cert.PostIdeal Cert.PostIdeal.Gen Cert.PostIdeal.Value LayerMath

variable (m : (ℓ : Loc nD τ sig) → Buf (Elt Ideal) ℓ) (c : Dev nD) (t : Fin cfg0.N)

/-- The block every window is at, at every grid point: row block `t % 8` of batch `t / 8`, the weights whole. -/
theorem where_at : ∀ t : Fin cfg0.N, win0_0.index t = ![t.val / 8, t.val % 8, 0]
    ∧ win0_1.index t = ![t.val / 8, t.val % 8, 0]
    ∧ win0_2.index t = ![t.val / 8, t.val % 8, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 8, t.val % 8, 0] :=
  (by decide +kernel : ∀ t : Fin grid0.N, _)

/-- The batch of a grid point. -/
def batch (t : Fin cfg0.N) : Fin 16 := ⟨t.val / 8, by have := t.isLt; change t.val < 128 at this; omega⟩

/-- The sequence position of row `r` of a grid point. -/
def pos (t : Fin cfg0.N) (r : Fin 512) : Fin 4096 := ⟨t.val % 8 * 512 + r.val, by omega⟩

/-- The layer input's block. -/
theorem x_at (r : Fin 512) (k : Fin 1024) :
    iblk m c 0 t (ix3 0 r k) = m ((c : Thread nD τ).loc main_arg0) (ix3 (batch t) (pos t r) k) := by
  blk_point [iblk, V, where_at t] <;> simp [batch, pos]

/-- The Fourier channels' block. -/
theorem f_at (r : Fin 512) (k : Fin 512) :
    iblk m c 1 t (ix3 0 r k) = m ((c : Thread nD τ).loc main_arg1) (ix3 (batch t) (pos t r) k) := by
  blk_point [iblk, V, where_at t] <;> simp [batch, pos]

/-- The attention channels' block. -/
theorem a_at (r : Fin 512) (k : Fin 512) :
    iblk m c 2 t (ix3 0 r k) = m ((c : Thread nD τ).loc main_arg2) (ix3 (batch t) (pos t r) k) := by
  blk_point [iblk, V, where_at t] <;> simp [batch, pos]

/-- The output matrix. -/
theorem wo_at (k l : Fin 1024) :
    iblk m c 5 t (ix2 k l) = m ((c : Thread nD τ).loc main_arg5) (ix2 k l) := by
  blk_point [iblk, V, where_at t]

/-- The mixing gain. -/
theorem g_at (k : Fin 1024) :
    iblk m c 6 t (ix2 0 k) = m ((c : Thread nD τ).loc main_arg6) (ix1 k) := by
  blk_point [iblk, V, where_at t]

/-- The mixing offset. -/
theorem b_at (k : Fin 1024) :
    iblk m c 7 t (ix2 0 k) = m ((c : Thread nD τ).loc main_arg7) (ix1 k) := by
  blk_point [iblk, V, where_at t]

/-- The MLP's gain. -/
theorem g2_at (k : Fin 1024) :
    iblk m c 10 t (ix2 0 k) = m ((c : Thread nD τ).loc main_arg10) (ix1 k) := by
  blk_point [iblk, V, where_at t]

/-- The MLP's offset. -/
theorem b2_at (k : Fin 1024) :
    iblk m c 11 t (ix2 0 k) = m ((c : Thread nD τ).loc main_arg11) (ix1 k) := by
  blk_point [iblk, V, where_at t]

/-- The first MLP matrix. -/
theorem up_at (k : Fin 1024) (l : Fin 4096) :
    iblk m c 8 t (ix2 k l) = m ((c : Thread nD τ).loc main_arg8) (ix2 k l) := by
  blk_point [iblk, V, where_at t]

/-- The second MLP matrix. -/
theorem down_at (k : Fin 4096) (l : Fin 1024) :
    iblk m c 9 t (ix2 k l) = m ((c : Thread nD τ).loc main_arg9) (ix2 k l) := by
  blk_point [iblk, V, where_at t]

/-- What a grid point stores is the reference's value there. -/
theorem point (r : Fin 512) (j : Fin 1024) :
    out0_12 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix3 0 r j)
      = Cert.PostRefIdeal.Read.val_main_v60 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (batch t) (pos t r) j) := by
  rw [Body.body_at, Cert.PostRefIdeal.Row.after_at]
  simp only [funext fun k => Cert.PostRefIdeal.Row.mixed_at _ _ _ _ _ _ (batch t) (pos t r) k,
    x_at, f_at, a_at, wo_at, g_at, b_at, g2_at, b2_at, up_at, down_at]

/-- The result array after the run is the reference's. -/
theorem final : (dats m 0 c).arrAt 12 (cfgs 0).N = Cert.PostRefIdeal.Read.val_main_v60 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp; rw [after0_12]
  idx_vars y
  obtain rfl : y0 = 0 := Subsingleton.elim _ _
  refine (point m c t y1 y2).trans (congrArg _ ?_)
  blk_ext [where_at t] <;> simp [batch, pos]

end Cert.PostIdeal.Bridge
end
-- ==== Proof.AttnMath.lean ====
/- The mathematics of one softmax row with a sink logit: weights divided before or after the sum over the
   values are the same, and what some float words stand for. -/
module

public import Idealize.ShloMosaic.Lib.Pointwise

@[expose] public section

noncomputable section

open Idealize.ShloMosaic

namespace AttnMath

/-- The greatest score of a row, its sink among them. -/
def peak (s : Fin 384 → EReal) (k : EReal) : EReal :=
  max (Finset.fold max (Ideal.ofBits .f32 0xFF800000#32) s Finset.univ) k

/-- A key's unnormalised weight. -/
def weight (s : Fin 384 → EReal) (k : EReal) (x : Fin 384) : EReal := Ideal.exp (s x - peak s k)

/-- The sum of a row's weights and the sink's. -/
def total (s : Fin 384 → EReal) (k : EReal) : EReal := ∑ x, weight s k x + Ideal.exp (k - peak s k)

/-- The row's output where every weight is normalised first. -/
def normalisedFirst (s : Fin 384 → EReal) (k : EReal) (v : Fin 384 → EReal) : EReal :=
  ∑ x, v x * Ideal.div (weight s k x) (total s k)

/-- The row's output where the sum over the keys is normalised last. -/
def normalisedLast (s : Fin 384 → EReal) (k : EReal) (v : Fin 384 → EReal) : EReal :=
  (∑ x, weight s k x * v x) * Ideal.div 1 (total s k)

/-- A real factor that is not negative moves out of a sum. -/
theorem sum_mul_real {ι : Type} (t : Finset ι) (f : ι → EReal) (c : ℝ) (hc : 0 ≤ c) :
    (∑ x ∈ t, f x) * (c : EReal) = ∑ x ∈ t, f x * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- The word of negative infinity. -/
theorem ofBits_bot : Ideal.ofBits .f32 0xFF800000#32 = ⊥ := by
  simp [Ideal.ofBits, Ideal.ieee]

/-- A fold of maxima from negative infinity is the supremum. -/
theorem fold_eq_sup (s : Fin 384 → EReal) :
    Finset.fold max (Ideal.ofBits .f32 0xFF800000#32) s Finset.univ = Finset.univ.sup s := by
  rw [ofBits_bot]; rfl

/-- Two and eight, less eight, an eighth and one as words. -/
theorem word_two : Ideal.ofBits FTy.f32 1073741824#32 = ((2 : ℝ) : EReal) := by
  simp +decide [Ideal.ofBits, Ideal.ieee, Nat.shiftRight_eq_div_pow]; norm_num; rw [← EReal.coe_mul]; norm_num
/-- The word of eight. -/
theorem word_eight : Ideal.ofBits FTy.f32 1090519040#32 = ((8 : ℝ) : EReal) := by
  simp +decide [Ideal.ofBits, Ideal.ieee, Nat.shiftRight_eq_div_pow]; norm_num; rw [← EReal.coe_mul]; norm_num
/-- The word of minus eight. -/
theorem word_minus_eight : Ideal.ofBits FTy.f32 3238002688#32 = ((-8 : ℝ) : EReal) := by
  simp +decide [Ideal.ofBits, Ideal.ieee, Nat.shiftRight_eq_div_pow]; norm_num; rw [← EReal.coe_mul]; norm_num
/-- The word of an eighth. -/
theorem word_eighth : Ideal.ofBits FTy.f32 1040187392#32 = ((1 / 8 : ℝ) : EReal) := by
  simp +decide [Ideal.ofBits, Ideal.ieee, Nat.shiftRight_eq_div_pow]; norm_num; rw [← EReal.coe_mul]; norm_num

variable {s : Fin 384 → EReal} {k : EReal}

/-- With one real score and no infinite ones the greatest score is a real. -/
theorem peak_real (x₀ : Fin 384) (h₀ : s x₀ ≠ ⊥) (hs : ∀ x, s x ≠ ⊤) (hk : k ≠ ⊤) :
    ∃ r : ℝ, peak s k = r := by
  have h1 : s x₀ ≤ peak s k := by
    unfold peak; rw [fold_eq_sup]; exact (Finset.le_sup (Finset.mem_univ x₀)).trans (le_max_left _ _)
  have h2 : peak s k ≠ ⊤ := by
    unfold peak; rw [fold_eq_sup]
    refine (max_lt ((Finset.sup_lt_iff (bot_lt_top)).2 fun x _ => lt_top_iff_ne_top.2 (hs x)) (lt_top_iff_ne_top.2 hk)).ne
  have h3 : peak s k ≠ ⊥ := fun h => h₀ (le_bot_iff.1 (h ▸ h1))
  exact ⟨(peak s k).toReal, (EReal.coe_toReal h2 h3).symm⟩

/-- The exponential of anything but positive infinity is a real that is not negative. -/
theorem exp_real (x : EReal) (h : x ≠ ⊤) : ∃ r : ℝ, 0 ≤ r ∧ Ideal.exp x = r := by
  induction x using EReal.rec with
  | bot => exact ⟨0, le_rfl, by simp⟩
  | coe r => exact ⟨Real.exp r, (Real.exp_pos r).le, by simp⟩
  | top => exact absurd rfl h

/-- A score less a real is not positive infinity. -/
theorem sub_real_ne_top {x : EReal} (h : x ≠ ⊤) (r : ℝ) : x - (r : EReal) ≠ ⊤ := by
  induction x using EReal.rec with
  | bot => simp
  | coe a => exact_mod_cast EReal.coe_ne_top (a - r)
  | top => exact absurd rfl h

/-- With one real score and no infinite ones the weights are reals and their sum a positive real. -/
theorem total_real (x₀ : Fin 384) (h₀ : s x₀ ≠ ⊥) (hs : ∀ x, s x ≠ ⊤) (hk : k ≠ ⊤) :
    ∃ d : ℝ, 0 < d ∧ total s k = d := by
  obtain ⟨p, hp⟩ := peak_real x₀ h₀ hs hk
  have hw : ∀ x, ∃ r : ℝ, 0 ≤ r ∧ weight s k x = r := fun x => by
    unfold weight; rw [hp]; exact exp_real _ (sub_real_ne_top (hs x) p)
  choose w hw0 hw using hw
  obtain ⟨e, he0, he⟩ := exp_real (k - p) (sub_real_ne_top hk p)
  have hx : 0 < w x₀ := by
    have h := hw x₀
    obtain ⟨a, ha⟩ : ∃ a : ℝ, s x₀ = a := ⟨_, (EReal.coe_toReal (hs x₀) h₀).symm⟩
    unfold weight at h
    rw [hp, ha, ← EReal.coe_sub, Ideal.exp_coe] at h
    rw [← EReal.coe_injective h]; exact Real.exp_pos _
  refine ⟨∑ x, w x + e, ?_, ?_⟩
  · have := Finset.sum_pos' (s := Finset.univ) (fun x _ => hw0 x) ⟨x₀, Finset.mem_univ _, hx⟩
    linarith
  · unfold total
    rw [hp, he, EReal.coe_add, Finset.sum_congr rfl fun x _ => hw x]
    refine congrArg (· + (e : EReal)) ?_
    exact (map_sum (⟨⟨Real.toEReal, rfl⟩, EReal.coe_add⟩ : ℝ →+ EReal) w Finset.univ).symm

/-- Normalising the weights or their sum's product gives the same output, whatever the values of the keys that are
    masked. -/
theorem last_eq_first (x₀ : Fin 384) (h₀ : s x₀ ≠ ⊥) (hs : ∀ x, s x ≠ ⊤) (hk : k ≠ ⊤)
    (v v' : Fin 384 → EReal) (hv : ∀ x, s x ≠ ⊥ → v x = v' x) :
    normalisedLast s k v = normalisedFirst s k v' := by
  obtain ⟨d, hd, e⟩ := total_real x₀ h₀ hs hk
  unfold normalisedLast normalisedFirst
  rw [e, Ideal.div_coe hd.ne', one_mul, sum_mul_real _ _ _ (by positivity)]
  refine Finset.sum_congr rfl fun x _ => ?_
  rw [Ideal.div_coe hd.ne']
  by_cases hx : s x = ⊥
  · have : weight s k x = 0 := by unfold weight; rw [hx, EReal.bot_sub]; rfl
    rw [this]; simp
  · rw [hv x hx, mul_comm (weight s k x), mul_assoc]

end AttnMath
end
-- ==== Proof.AttnPay.lean ====
/- What the attention body's pure parts compute for one query block: scores, softmax with a sink, output tile. -/
module

public import proofs.«01_k».proof.Proof.Gen.AttnIdeal.Value
public import proofs.«01_k».proof.Proof.AttnMath
public import Idealize.ShloMosaic.Lib.Pipeline.ValueKit
public import Idealize.ShloMosaic.Lib.Pointwise

@[expose] public section

noncomputable section

namespace Cert.AttnIdeal.Body

open Cert.AttnIdeal Cert.AttnIdeal.Gen Idealize.ShloMosaic Idealize.ShloMosaic.TcCoe Idealize.SL.Sem
open AttnMath

/-- The soft-max of 512 rows of 384 scores with a sink each, applied to the values and normalised last. -/
def soft (s : FVec Ideal S512x384 .f32) (k : Vec Ideal S1x512x1 .f32) (v : FVec Ideal S384x128 .bf16) : FVec Ideal S512x128 .f32 :=
  let k' : FVec Ideal S512x1 .f32 := shapeCast S512x1 k shapeCasts_S1x512x1_S512x1
  let top : FVec Ideal S512x1 .f32 := maximumf (shapeCast S512x1 (multiReduction (F := Ideal) .maximumf [1] S512 s 0xFF800000#32 reduces_S512x384_S512 (.inl rfl) rfl) shapeCasts_S512_S512x1) k'
  let p : FVec Ideal S512x384 .f32 := exp (subf s (broadcastTo S512x384 top broadcasts_S512x1_S512x384))
  let den : FVec Ideal S512x1 .f32 := addf (shapeCast S512x1 (multiReduction (F := Ideal) .add [1] S512 p 0x00000000#32 reduces_S512x384_S512 (.inl rfl) rfl) shapeCasts_S512_S512x1) (exp (subf k' top))
  let pv : FVec Ideal S512x128 .f32 := matmul dot_S512x384_S384x128_S512x128_1_0_0_1_n_n none (truncf .bf16 p bitsLt_bf16_f32) v (constant S512x128 .f32 0x00000000#32)
  mulf pv (broadcastTo S512x128 (divf (broadcast S512x1 (Scalar.ofBits (F := Ideal) .f32 0x3F800000#32)) den) broadcasts_S512x1_S512x128)

/-- One entry of the softmax part: the row's weights times the values, divided last. -/
theorem soft_at (s : FVec Ideal S512x384 .f32) (k : Vec Ideal S1x512x1 .f32) (v : FVec Ideal S384x128 .bf16) (i : Fin 512) (l : Fin 128) :
    soft s k v (ix2 i l) = normalisedLast (fun x => s (ix2 i x)) (k (ix3 0 i 0)) (fun x => v (ix2 x l)) := by
  pointwise [soft]
  rfl

/-- Two pairs of query heads, each once with its left half kept and once with its right half kept, one below the other. -/
def halves (a b ml mr : FVec Ideal S128x128 .bf16) : FVec Ideal S512x128 .bf16 :=
  concatenate S512x128 0 [⟨S128x128, mulf a ml⟩, ⟨S128x128, mulf a mr⟩, ⟨S128x128, mulf b ml⟩, ⟨S128x128, mulf b mr⟩] concatenates_S128x128_S128x128_S128x128_S128x128_S512x128_d0

/-- The stacked queries: each pair of heads gives two blocks, one under each lane mask. -/
theorem halves_at (a b ml mr : FVec Ideal S128x128 .bf16) (p h : Fin 2) (r l : Fin 128) :
    halves a b ml mr (ix2 ⟨256 * p.val + 128 * h.val + r.val, by omega⟩ l)
      = (if p = 0 then a else b) (ix2 r l) * (if h = 0 then ml else mr) (ix2 r l) := by
  pointwise [halves]
  have hr := r.isLt
  have h2 : 256 + r.val - 128 - 128 = r.val := by omega
  have h3 : 384 + r.val - 128 - 128 - 128 = r.val := by omega
  fin_cases p <;> fin_cases h <;> simp <;> split_ifs <;> first | rfl | omega | simp only [h2, h3]

/-- The left half's mask: one on the first 64 lanes. -/
theorem left_at (r l : Fin 128) : k0_pay7 (F := Ideal) (ix2 r l) = if l.val < 64 then (1 : EReal) else 0 := by
  have h : ∀ l : Fin 128, IntOp.cmpi .slt (BitVec.ofNat 32 l.val) 64#32 = if l.val < 64 then 1#1 else 0#1 := by decide +kernel
  pointwise [k0_pay6, k0_pay7]
  rw [h]
  split_ifs
  · show (((BitVec.setWidth 32 1#1).toInt : ℝ) : EReal) = 1
    norm_num
  · show (((BitVec.setWidth 32 0#1).toInt : ℝ) : EReal) = 0
    norm_num

/-- The right half's mask: one on the last 64 lanes. -/
theorem right_at (r l : Fin 128) : k0_pay8 (F := Ideal) (ix2 r l) = if l.val < 64 then (0 : EReal) else 1 := by
  have h := left_at r l
  unfold k0_pay8
  generalize k0_pay7 (F := Ideal) = w at h ⊢
  pointwise []
  rw [h]
  have one : (1 : EReal) - 1 = 0 := by
    show ((1 : ℝ) : EReal) - ((1 : ℝ) : EReal) = 0
    rw [← EReal.coe_sub]
    simp
  split_ifs
  · exact one
  · exact sub_zero _

/-- The scores of 512 rows against 384 keys, the bias added. -/
def scores (q : FVec Ideal S512x128 .bf16) (kk : FVec Ideal S384x128 .bf16) (b : Vec Ideal S1x512x384 .f32) : FVec Ideal S512x384 .f32 :=
  addf (matmul dot_S512x128_S384x128_S512x384_1_1_0_0_n_n none q kk (constant S512x384 .f32 0x00000000#32)) (shapeCast S512x384 b shapeCasts_S1x512x384_S512x384)

/-- A score is the dot product of a query row and a key row, plus the bias. -/
theorem scores_at (q : FVec Ideal S512x128 .bf16) (kk : FVec Ideal S384x128 .bf16) (b : Vec Ideal S1x512x384 .f32) (i : Fin 512) (x : Fin 384) :
    scores q kk b (ix2 i x) = (∑ l : Fin 128, q (ix2 i l) * kk (ix2 x l)) + b (ix3 0 i x) := by
  pointwise [scores]

/-- The scores with a number added to the first third of the keys. -/
def first (n : Ideal .f32) (s : FVec Ideal S512x384 .f32) : FVec Ideal S512x384 .f32 :=
  concatenate S512x384 1 [⟨S512x128, addf (extractStridedSlice S512x128 ![0, 0] s slices_S512x384_o0_0_S512x128) (broadcast S512x128 n)⟩,
    ⟨S512x256, extractStridedSlice S512x256 ![0, 128] s slices_S512x384_o0_128_S512x256⟩] concatenates_S512x128_S512x256_S512x384_d1

/-- The first block's edge term falls on the first 128 keys only. -/
theorem first_at (n : Ideal .f32) (s : FVec Ideal S512x384 .f32) (i : Fin 512) (x : Fin 384) :
    first n s (ix2 i x) = s (ix2 i x) + if x.val < 128 then n else 0 := by
  pointwise [first]
  by_cases hx : x.val < 128
  · simp [hx]
  · have e : 128 + (x.val - 128) = x.val := by omega
    simp [hx, e]

/-- The scores with a number added to the last third of the keys. -/
def last (n : Ideal .f32) (s : FVec Ideal S512x384 .f32) : FVec Ideal S512x384 .f32 :=
  concatenate S512x384 1 [⟨S512x256, extractStridedSlice S512x256 ![0, 0] s slices_S512x384_o0_0_S512x256⟩,
    ⟨S512x128, addf (extractStridedSlice S512x128 ![0, 256] s slices_S512x384_o0_256_S512x128) (broadcast S512x128 n)⟩] concatenates_S512x256_S512x128_S512x384_d1

/-- The last block's edge term falls on the last 128 keys only. -/
theorem last_at (n : Ideal .f32) (s : FVec Ideal S512x384 .f32) (i : Fin 512) (x : Fin 384) :
    last n s (ix2 i x) = s (ix2 i x) + if x.val < 256 then 0 else n := by
  pointwise [last]
  by_cases hx : x.val < 256
  · simp [hx]
  · have e : 256 + (x.val - 256) = x.val := by omega
    simp [hx, e]

/-- A sum over 128 lanes masked to the half `h` is a sum over 64 lanes. -/
theorem half_sum (f m g : Fin 128 → EReal) (h : Fin 2) (hm : ∀ l, m l = if l.val / 64 = h.val then 1 else 0) :
    ∑ l, f l * m l * g l = ∑ d : Fin 64, f ⟨64 * h.val + d.val, by omega⟩ * g ⟨64 * h.val + d.val, by omega⟩ := by
  have e : ∀ l : Fin 128, f l * m l * g l = if l.val / 64 = h.val then f l * g l else 0 := fun l => by
    rw [hm]; split_ifs <;> simp
  simp_rw [e]
  rw [← Finset.sum_filter]
  symm
  refine Finset.sum_nbij (fun d : Fin 64 => (⟨64 * h.val + d.val, by omega⟩ : Fin 128)) ?_ ?_ ?_ ?_
  · intro d _; simp; omega
  · intro d _ d' _ hd; simpa [Fin.ext_iff] using hd
  · intro l hl
    simp only [Finset.coe_filter, Finset.mem_univ, true_and, Set.mem_setOf_eq] at hl
    exact ⟨⟨l.val - 64 * h.val, by omega⟩, by simp, Fin.ext (by simp only [] <;> omega)⟩
  · intro d _; rfl

/-- One number of the attention: the scores of a query row of 64 lanes against 384 keys, a bias and a further
    mask added, their soft-max with the sink, applied to one lane of the values. -/
def cell (q : Fin 64 → EReal) (k : Fin 384 → Fin 64 → EReal) (bias edge : Fin 384 → EReal) (sink : EReal) (v : Fin 384 → EReal) : EReal :=
  normalisedLast (fun x => (∑ d, q d * k x d) + bias x + edge x) sink v

/-- The whole of one pair of query heads: the soft-max's rows of its left half where the lane is to the left, of its right half elsewhere. -/
def tileL (a b : FVec Ideal S128x128 .bf16) (kk vv : FVec Ideal S384x128 .bf16) (bias : Vec Ideal S1x512x384 .f32) (sink : Vec Ideal S1x512x1 .f32)
    (mod : FVec Ideal S512x384 .f32 → FVec Ideal S512x384 .f32) : FVec Ideal S1x128x128 .f32 :=
  let o := soft (mod (scores (halves a b (k0_pay7 (F := Ideal)) (k0_pay8 (F := Ideal))) kk bias)) sink vv
  shapeCast S1x128x128 (select k0_pay6 (extractStridedSlice S128x128 ![0, 0] o slices_S512x128_o0_0_S128x128)
    (extractStridedSlice S128x128 ![128, 0] o slices_S512x128_o128_0_S128x128)) shapeCasts_S128x128_S1x128x128

/-- The same of the second pair. -/
def tileR (a b : FVec Ideal S128x128 .bf16) (kk vv : FVec Ideal S384x128 .bf16) (bias : Vec Ideal S1x512x384 .f32) (sink : Vec Ideal S1x512x1 .f32)
    (mod : FVec Ideal S512x384 .f32 → FVec Ideal S512x384 .f32) : FVec Ideal S1x128x128 .f32 :=
  let o := soft (mod (scores (halves a b (k0_pay7 (F := Ideal)) (k0_pay8 (F := Ideal))) kk bias)) sink vv
  shapeCast S1x128x128 (select k0_pay6 (extractStridedSlice S128x128 ![256, 0] o slices_S512x128_o256_0_S128x128)
    (extractStridedSlice S128x128 ![384, 0] o slices_S512x128_o384_0_S128x128)) shapeCasts_S128x128_S1x128x128

/-- A row of the soft-max, at the row of pair `p` and half `h` and at any lane. -/
theorem row_at (a b : FVec Ideal S128x128 .bf16) (kk vv : FVec Ideal S384x128 .bf16) (bias : Vec Ideal S1x512x384 .f32) (sink : Vec Ideal S1x512x1 .f32)
    (mod : FVec Ideal S512x384 .f32 → FVec Ideal S512x384 .f32) (edge : Fin 384 → EReal) (hmod : ∀ s i x, mod s (ix2 i x) = s (ix2 i x) + edge x)
    (p h : Fin 2) (r l : Fin 128) (i : Fin 512) (hi : i.val = 256 * p.val + 128 * h.val + r.val) :
    soft (mod (scores (halves a b (k0_pay7 (F := Ideal)) (k0_pay8 (F := Ideal))) kk bias)) sink vv (ix2 i l)
      = cell (fun d => (if p = 0 then a else b) (ix2 r ⟨64 * h.val + d.val, by omega⟩)) (fun x d => kk (ix2 x ⟨64 * h.val + d.val, by omega⟩))
          (fun x => bias (ix3 0 i x)) edge (sink (ix3 0 i 0)) (fun x => vv (ix2 x l)) := by
  rw [soft_at]
  unfold cell
  refine congrArg (fun s => normalisedLast s _ _) (funext fun x => ?_)
  rw [hmod, scores_at]
  refine congrArg (fun s => s + _ + _) ?_
  rw [show i = ⟨256 * p.val + 128 * h.val + r.val, by omega⟩ from Fin.ext hi]
  rw [Finset.sum_congr rfl fun l _ => congrArg (· * kk (ix2 x l)) (halves_at a b _ _ p h r l)]
  refine half_sum _ (fun l => (if h = 0 then k0_pay7 (F := Ideal) else k0_pay8 (F := Ideal)) (ix2 r l)) _ h fun l => ?_
  have hl := l.isLt
  have e0 : l.val < 64 ↔ l.val / 64 = 0 := by omega
  have e1 : ¬ l.val < 64 ↔ l.val / 64 = 1 := by omega
  fin_cases h
  · refine (left_at r l).trans ?_
    show (if l.val < 64 then (1 : EReal) else 0) = if l.val / 64 = 0 then 1 else 0
    simp only [e0]
  · refine (right_at r l).trans ?_
    show (if l.val < 64 then (0 : EReal) else 1) = if l.val / 64 = 1 then 1 else 0
    simp only [← e1, ite_not]

/-- The mask of the left lanes. -/
theorem left_lane (r l : Fin 128) : k0_pay6 (ix2 r l) = if l.val < 64 then 1#1 else 0#1 := by
  have h : ∀ l : Fin 128, IntOp.cmpi .slt (BitVec.ofNat 32 l.val) 64#32 = if l.val < 64 then 1#1 else 0#1 := by decide +kernel
  pointwise [k0_pay6]
  exact h l

/-- A number of the first pair's tile. -/
theorem tileL_at (a b : FVec Ideal S128x128 .bf16) (kk vv : FVec Ideal S384x128 .bf16) (bias : Vec Ideal S1x512x384 .f32) (sink : Vec Ideal S1x512x1 .f32)
    (mod : FVec Ideal S512x384 .f32 → FVec Ideal S512x384 .f32) (edge : Fin 384 → EReal) (hmod : ∀ s i x, mod s (ix2 i x) = s (ix2 i x) + edge x)
    (h : Fin 2) (r l : Fin 128) (hl : l.val / 64 = h.val) :
    tileL a b kk vv bias sink mod (ix3 0 r l)
      = cell (fun d => a (ix2 r ⟨64 * h.val + d.val, by omega⟩)) (fun x d => kk (ix2 x ⟨64 * h.val + d.val, by omega⟩))
          (fun x => bias (ix3 0 ⟨128 * h.val + r.val, by omega⟩ x)) edge (sink (ix3 0 ⟨128 * h.val + r.val, by omega⟩ 0))
          (fun x => vv (ix2 x l)) := by
  have H := row_at a b kk vv bias sink mod edge hmod 0 h r l ⟨128 * h.val + r.val, by omega⟩ (by simp)
  have hw := left_lane r l
  unfold tileL
  generalize soft _ sink vv = o at H ⊢
  generalize k0_pay6 = w at hw ⊢
  pointwise []
  rw [hw]
  refine Eq.trans ?_ H
  obtain h0 | h1 : h.val = 0 ∨ h.val = 1 := by omega
  · rw [if_pos (by omega)]
    exact congrArg o (congrArg (ix2 · l) (Fin.ext (by simp only [h0] <;> omega)))
  · rw [if_neg (by omega)]
    exact congrArg o (congrArg (ix2 · l) (Fin.ext (by simp only [h1] <;> omega)))

/-- A number of the second pair's tile. -/
theorem tileR_at (a b : FVec Ideal S128x128 .bf16) (kk vv : FVec Ideal S384x128 .bf16) (bias : Vec Ideal S1x512x384 .f32) (sink : Vec Ideal S1x512x1 .f32)
    (mod : FVec Ideal S512x384 .f32 → FVec Ideal S512x384 .f32) (edge : Fin 384 → EReal) (hmod : ∀ s i x, mod s (ix2 i x) = s (ix2 i x) + edge x)
    (h : Fin 2) (r l : Fin 128) (hl : l.val / 64 = h.val) :
    tileR a b kk vv bias sink mod (ix3 0 r l)
      = cell (fun d => b (ix2 r ⟨64 * h.val + d.val, by omega⟩)) (fun x d => kk (ix2 x ⟨64 * h.val + d.val, by omega⟩))
          (fun x => bias (ix3 0 ⟨256 + 128 * h.val + r.val, by omega⟩ x)) edge (sink (ix3 0 ⟨256 + 128 * h.val + r.val, by omega⟩ 0))
          (fun x => vv (ix2 x l)) := by
  have H := row_at a b kk vv bias sink mod edge hmod 1 h r l ⟨256 + 128 * h.val + r.val, by omega⟩ (by simp)
  have hw := left_lane r l
  unfold tileR
  generalize soft _ sink vv = o at H ⊢
  generalize k0_pay6 = w at hw ⊢
  pointwise []
  rw [hw]
  refine Eq.trans ?_ H
  obtain h0 | h1 : h.val = 0 ∨ h.val = 1 := by omega
  · rw [if_pos (by omega)]
    exact congrArg o (congrArg (ix2 · l) (Fin.ext (by simp only [h0] <;> omega)))
  · rw [if_neg (by omega)]
    exact congrArg o (congrArg (ix2 · l) (Fin.ext (by simp only [h1] <;> omega)))

end Cert.AttnIdeal.Body
-- ==== Proof.AttnTile.lean ====
/- What one grid point of the attention stores: four query blocks times four lane groups, put together. -/
module

public import proofs.«01_k».proof.Proof.AttnPay

@[expose] public section

noncomputable section

namespace Cert.AttnIdeal.Body

open Cert.AttnIdeal Cert.AttnIdeal.Gen Idealize.ShloMosaic Idealize.ShloMosaic.TcCoe Idealize.SL.Sem
open AttnMath

theorem keys_slice (v : FVec Ideal S768x256 .bf16) (o c : ℕ) (hs : S768x256.Slices ![o, c] S384x128) (ho : o + 384 ≤ 768) (hc : c + 128 ≤ 256) (x : Fin 384) (d : Fin 128) :
    extractStridedSlice S384x128 ![o, c] v hs (ix2 x d) = v (ix2 ⟨o + x.val, by omega⟩ ⟨c + d.val, by omega⟩) := by
  pointwise []

/-- 128 lanes cut from a block of queries. -/
theorem queries_slice (v : FVec Ideal S128x512 .bf16) (c : ℕ) (hs : S128x512.Slices ![0, c] S128x128) (hc : c + 128 ≤ 512) (r : Fin 128) (d : Fin 128) :
    extractStridedSlice S128x128 ![0, c] v hs (ix2 r d) = v (ix2 r ⟨c + d.val, by omega⟩) := by
  pointwise []

/-- A tile of a first pair, its operands cut out of the token block's queries and out of the keys and values at hand. -/
def leftTile (ca cb o c : ℕ) (ha : S128x512.Slices ![0, ca] S128x128) (hb : S128x512.Slices ![0, cb] S128x128) (hk : S768x256.Slices ![o, c] S384x128)
    (q : FVec Ideal S128x512 .bf16) (k v : FVec Ideal S768x256 .bf16) (bias : Vec Ideal S1x512x384 .f32) (sink : Vec Ideal S1x512x1 .f32)
    (mod : FVec Ideal S512x384 .f32 → FVec Ideal S512x384 .f32) : FVec Ideal S1x128x128 .f32 :=
  tileL (extractStridedSlice S128x128 ![0, ca] q ha) (extractStridedSlice S128x128 ![0, cb] q hb)
    (extractStridedSlice S384x128 ![o, c] k hk) (extractStridedSlice S384x128 ![o, c] v hk) bias sink mod

/-- A tile of a second pair. -/
def rightTile (ca cb o c : ℕ) (ha : S128x512.Slices ![0, ca] S128x128) (hb : S128x512.Slices ![0, cb] S128x128) (hk : S768x256.Slices ![o, c] S384x128)
    (q : FVec Ideal S128x512 .bf16) (k v : FVec Ideal S768x256 .bf16) (bias : Vec Ideal S1x512x384 .f32) (sink : Vec Ideal S1x512x1 .f32)
    (mod : FVec Ideal S512x384 .f32 → FVec Ideal S512x384 .f32) : FVec Ideal S1x128x128 .f32 :=
  tileR (extractStridedSlice S128x128 ![0, ca] q ha) (extractStridedSlice S128x128 ![0, cb] q hb)
    (extractStridedSlice S384x128 ![o, c] k hk) (extractStridedSlice S384x128 ![o, c] v hk) bias sink mod

section
variable (v6 v13 : FVec Ideal S768x256 .bf16) (n : Ideal .f32) (w : Vec Ideal S1x128x512 .bf16) (b : Vec Ideal S1x512x384 .f32) (k : Vec Ideal S1x512x1 .f32)

/-- The first 128 tokens' tiles of the first key head. -/
theorem tiles_0_0 :
    k0_pay12 v6 v13 n k0_pay6 (k0_pay7 (F := Ideal)) (k0_pay8 (F := Ideal)) (k0_pay9 w) (k0_pay10 w) b k
        = leftTile 0 128 0 0 slices_S128x512_o0_0_S128x128 slices_S128x512_o0_128_S128x128 slices_S768x256_o0_0_S384x128 (k0_pay9 w) v6 v13 b k (first n)
    ∧ k0_pay14 (k0_pay13 v6 v13 n k0_pay6 (k0_pay7 (F := Ideal)) (k0_pay8 (F := Ideal)) (k0_pay9 w) (k0_pay10 w) b k)
        = rightTile 0 128 0 0 slices_S128x512_o0_0_S128x128 slices_S128x512_o0_128_S128x128 slices_S768x256_o0_0_S384x128 (k0_pay9 w) v6 v13 b k (first n) := ⟨rfl, rfl⟩

/-- The first 128 tokens' tiles of the second key head. -/
theorem tiles_0_1 :
    k0_pay17 (k0_pay16 v6 v13 n k0_pay6 (k0_pay7 (F := Ideal)) (k0_pay8 (F := Ideal)) (k0_pay9 w) b k)
        = leftTile 256 384 0 128 slices_S128x512_o0_256_S128x128 slices_S128x512_o0_384_S128x128 slices_S768x256_o0_128_S384x128 (k0_pay9 w) v6 v13 b k (first n)
    ∧ k0_pay18 k0_pay6 (k0_pay15 v6 v13 n (k0_pay7 (F := Ideal)) (k0_pay8 (F := Ideal)) (k0_pay9 w) b k)
        = rightTile 256 384 0 128 slices_S128x512_o0_256_S128x128 slices_S128x512_o0_384_S128x128 slices_S768x256_o0_128_S384x128 (k0_pay9 w) v6 v13 b k (first n) := ⟨rfl, rfl⟩

/-- The second 128 tokens' tiles of the first key head. -/
theorem tiles_1_0 :
    k0_pay28 k0_pay6 (k0_pay24 v6 (k0_pay7 (F := Ideal)) (k0_pay8 (F := Ideal)) w b k) (k0_pay25 v6 v13 (k0_pay7 (F := Ideal)) (k0_pay8 (F := Ideal)) w b k) (k0_pay26 (F := Ideal))
        = leftTile 0 128 128 0 slices_S128x512_o0_0_S128x128 slices_S128x512_o0_128_S128x128 slices_S768x256_o128_0_S384x128 (k0_pay19 w) v6 v13 b k id
    ∧ k0_pay29 k0_pay6 (k0_pay24 v6 (k0_pay7 (F := Ideal)) (k0_pay8 (F := Ideal)) w b k) (k0_pay25 v6 v13 (k0_pay7 (F := Ideal)) (k0_pay8 (F := Ideal)) w b k) (k0_pay26 (F := Ideal))
        = rightTile 0 128 128 0 slices_S128x512_o0_0_S128x128 slices_S128x512_o0_128_S128x128 slices_S768x256_o128_0_S384x128 (k0_pay19 w) v6 v13 b k id := ⟨rfl, rfl⟩

/-- The second 128 tokens' tiles of the second key head. -/
theorem tiles_1_1 :
    k0_pay38 k0_pay6 (k0_pay30 v13) (k0_pay35 v6 (k0_pay7 (F := Ideal)) (k0_pay8 (F := Ideal)) (k0_pay19 w) b k) (k0_pay36 v6 (k0_pay7 (F := Ideal)) (k0_pay8 (F := Ideal)) (k0_pay19 w) b k) (constant S512x128 .f32 0x00000000#32)
        = leftTile 256 384 128 128 slices_S128x512_o0_256_S128x128 slices_S128x512_o0_384_S128x128 slices_S768x256_o128_128_S384x128 (k0_pay19 w) v6 v13 b k id
    ∧ k0_pay39 k0_pay6 (k0_pay30 v13) (k0_pay35 v6 (k0_pay7 (F := Ideal)) (k0_pay8 (F := Ideal)) (k0_pay19 w) b k) (k0_pay36 v6 (k0_pay7 (F := Ideal)) (k0_pay8 (F := Ideal)) (k0_pay19 w) b k) (constant S512x128 .f32 0x00000000#32)
        = rightTile 256 384 128 128 slices_S128x512_o0_256_S128x128 slices_S128x512_o0_384_S128x128 slices_S768x256_o128_128_S384x128 (k0_pay19 w) v6 v13 b k id := ⟨rfl, rfl⟩

/-- The third 128 tokens' tiles of the first key head. -/
theorem tiles_2_0 :
    k0_pay47 k0_pay6 (k0_pay41 v13) (k0_pay43 k) (k0_pay44 v6 (k0_pay7 (F := Ideal)) (k0_pay8 (F := Ideal)) w b k) (k0_pay45 v6 (k0_pay7 (F := Ideal)) (k0_pay8 (F := Ideal)) w b k)
        = leftTile 0 128 256 0 slices_S128x512_o0_0_S128x128 slices_S128x512_o0_128_S128x128 slices_S768x256_o256_0_S384x128 (k0_pay40 w) v6 v13 b k id
    ∧ k0_pay48 k0_pay6 (k0_pay41 v13) (k0_pay43 k) (k0_pay44 v6 (k0_pay7 (F := Ideal)) (k0_pay8 (F := Ideal)) w b k) (k0_pay45 v6 (k0_pay7 (F := Ideal)) (k0_pay8 (F := Ideal)) w b k)
        = rightTile 0 128 256 0 slices_S128x512_o0_0_S128x128 slices_S128x512_o0_128_S128x128 slices_S768x256_o256_0_S384x128 (k0_pay40 w) v6 v13 b k id := ⟨rfl, rfl⟩

/-- The third 128 tokens' tiles of the second key head. -/
theorem tiles_2_1 :
    k0_pay54 k0_pay6 (k0_pay49 v13) (k0_pay50 v6 (k0_pay7 (F := Ideal)) (k0_pay8 (F := Ideal)) (k0_pay40 w) b) (k0_pay51 k) (k0_pay52 v6 (k0_pay7 (F := Ideal)) (k0_pay8 (F := Ideal)) (k0_pay40 w) b k)
        = leftTile 256 384 256 128 slices_S128x512_o0_256_S128x128 slices_S128x512_o0_384_S128x128 slices_S768x256_o256_128_S384x128 (k0_pay40 w) v6 v13 b k id
    ∧ k0_pay55 k0_pay6 (k0_pay49 v13) (k0_pay50 v6 (k0_pay7 (F := Ideal)) (k0_pay8 (F := Ideal)) (k0_pay40 w) b) (k0_pay51 k) (k0_pay52 v6 (k0_pay7 (F := Ideal)) (k0_pay8 (F := Ideal)) (k0_pay40 w) b k)
        = rightTile 256 384 256 128 slices_S128x512_o0_256_S128x128 slices_S128x512_o0_384_S128x128 slices_S768x256_o256_128_S384x128 (k0_pay40 w) v6 v13 b k id := ⟨rfl, rfl⟩

/-- The fourth 128 tokens' tiles of the first key head. -/
theorem tiles_3_0 :
    k0_pay61 n k0_pay6 (k0_pay57 v13) (k0_pay58 v6 (k0_pay7 (F := Ideal)) (k0_pay8 (F := Ideal)) w b) (k0_pay59 v6 (k0_pay7 (F := Ideal)) (k0_pay8 (F := Ideal)) w b) k
        = leftTile 0 128 384 0 slices_S128x512_o0_0_S128x128 slices_S128x512_o0_128_S128x128 slices_S768x256_o384_0_S384x128 (k0_pay56 w) v6 v13 b k (last n)
    ∧ k0_pay62 n k0_pay6 (k0_pay57 v13) (k0_pay58 v6 (k0_pay7 (F := Ideal)) (k0_pay8 (F := Ideal)) w b) (k0_pay59 v6 (k0_pay7 (F := Ideal)) (k0_pay8 (F := Ideal)) w b) k
        = rightTile 0 128 384 0 slices_S128x512_o0_0_S128x128 slices_S128x512_o0_128_S128x128 slices_S768x256_o384_0_S384x128 (k0_pay56 w) v6 v13 b k (last n) := ⟨rfl, rfl⟩

/-- The fourth 128 tokens' tiles of the second key head. -/
theorem tiles_3_1 :
    k0_pay67 n k0_pay6 (k0_pay63 (k0_pay7 (F := Ideal)) (k0_pay8 (F := Ideal)) (k0_pay56 w)) (k0_pay64 v6) (k0_pay65 v13) (constant S512x384 .f32 0x00000000#32) b k
        = leftTile 256 384 384 128 slices_S128x512_o0_256_S128x128 slices_S128x512_o0_384_S128x128 slices_S768x256_o384_128_S384x128 (k0_pay56 w) v6 v13 b k (last n)
    ∧ k0_pay1 (k0_pay68 n k0_pay6 (k0_pay63 (k0_pay7 (F := Ideal)) (k0_pay8 (F := Ideal)) (k0_pay56 w)) (k0_pay64 v6) (k0_pay65 v13) (constant S512x384 .f32 0x00000000#32) b k)
        = rightTile 256 384 384 128 slices_S128x512_o0_256_S128x128 slices_S128x512_o0_384_S128x128 slices_S768x256_o384_128_S384x128 (k0_pay56 w) v6 v13 b k (last n) := ⟨rfl, rfl⟩

end

/-- The 768 keys (or values) at hand: the 128 before the token block, its own 512, the 128 after it. -/
def near (a : Vec Ideal S1x128x256 .bf16) (b : Vec Ideal S1x512x256 .bf16) (c : Vec Ideal S1x128x256 .bf16) (j : Fin 768) (l : Fin 256) : EReal :=
  if h : j.val < 128 then a (ix3 0 ⟨j.val, h⟩ l) else if h' : j.val - 128 < 512 then b (ix3 0 ⟨j.val - 128, h'⟩ l) else c (ix3 0 ⟨j.val - 128 - 512, by omega⟩ l)

/-- The joined key blocks, at a row. -/
theorem keys_at (a : Vec Ideal S1x128x256 .bf16) (b : Vec Ideal S1x512x256 .bf16) (c : Vec Ideal S1x128x256 .bf16) (j : Fin 768) (l : Fin 256) :
    k0_pay2 a b c (ix2 j l) = near a b c j l := by
  pointwise [k0_pay2]
  rfl

/-- The joined value blocks, at a row. -/
theorem values_at (a : Vec Ideal S1x128x256 .bf16) (b : Vec Ideal S1x512x256 .bf16) (c : Vec Ideal S1x128x256 .bf16) (j : Fin 768) (l : Fin 256) :
    k0_pay3 a b c (ix2 j l) = near a b c j l := by
  pointwise [k0_pay3]
  rfl

/-- The further mask of the 128 tokens `s`: of the first ones on the keys before the block, of the last ones on the keys after it. -/
def edge (i : grid0.Coords) (s : ℕ) (x : Fin 384) : EReal :=
  if s = 0 then if x.val < 128 then k0_pay4 (F := Ideal) i else 0
  else if s = 3 then if x.val < 256 then 0 else k0_pay5 (F := Ideal) i else 0

/-- The body's output at token `y` and lane `z` of its block, from the blocks it reads. -/
def value (i : grid0.Coords) (x0 : Vec Ideal S1x512x512 .bf16) (x1 : Vec Ideal S1x128x256 .bf16) (x2 : Vec Ideal S1x512x256 .bf16) (x3 : Vec Ideal S1x128x256 .bf16)
    (x4 : Vec Ideal S1x128x256 .bf16) (x5 : Vec Ideal S1x512x256 .bf16) (x6 : Vec Ideal S1x128x256 .bf16) (x7 : Vec Ideal S2x512x384 .f32) (x8 : Vec Ideal S2x512x1 .f32)
    (y z : Fin 512) : EReal :=
  cell (fun d => x0 (ix3 0 y ⟨64 * (z.val / 64) + d.val, by omega⟩))
    (fun x d => near x1 x2 x3 ⟨128 * (y.val / 128) + x.val, by omega⟩ ⟨128 * (z.val / 256) + 64 * (z.val / 64 % 2) + d.val, by omega⟩)
    (fun x => x7 (ix3 ⟨z.val / 256, by omega⟩ ⟨128 * (z.val / 64 % 4) + y.val % 128, by omega⟩ x))
    (edge i (y.val / 128))
    (x8 (ix3 ⟨z.val / 256, by omega⟩ ⟨128 * (z.val / 64 % 4) + y.val % 128, by omega⟩ 0))
    (fun x => near x4 x5 x6 ⟨128 * (y.val / 128) + x.val, by omega⟩ ⟨128 * (z.val / 256) + z.val % 128, by omega⟩)

/-- An index of a stored tile is a row and a lane. -/
theorem tile_idx (x : S1x128x128.Idx) : ∃ r l : Fin 128, x = ix3 0 r l :=
  ⟨x 1, x 2, by funext a; fin_cases a; exacts [Subsingleton.elim (α := Fin 1) _ _, rfl, rfl]⟩

section
variable (i : grid0.Coords) (x0 : Vec Ideal S1x512x512 .bf16) (x1 : Vec Ideal S1x128x256 .bf16) (x2 : Vec Ideal S1x512x256 .bf16) (x3 : Vec Ideal S1x128x256 .bf16)
  (x4 : Vec Ideal S1x128x256 .bf16) (x5 : Vec Ideal S1x512x256 .bf16) (x6 : Vec Ideal S1x128x256 .bf16) (x7 : Vec Ideal S2x512x384 .f32) (x8 : Vec Ideal S2x512x1 .f32)
  (s : Fin 4) (kh : Fin 2) (ca cb o c : ℕ) (hca : ca = 256 * kh.val) (hcb : cb = 256 * kh.val + 128) (ho : o = 128 * s.val) (hc : c = 128 * kh.val)
  (ha : S128x512.Slices ![0, ca] S128x128) (hb : S128x512.Slices ![0, cb] S128x128) (hk : S768x256.Slices ![o, c] S384x128)
  (q : FVec Ideal S128x512 .bf16) (hq : ∀ r l, q (ix2 r l) = x0 (ix3 0 ⟨128 * s.val + r.val, by omega⟩ l))
  (k v : FVec Ideal S768x256 .bf16) (hkk : ∀ j l, k (ix2 j l) = near x1 x2 x3 j l) (hv : ∀ j l, v (ix2 j l) = near x4 x5 x6 j l)
  (bias : Vec Ideal S1x512x384 .f32) (hbias : ∀ y x, bias (ix3 0 y x) = x7 (ix3 kh y x))
  (sink : Vec Ideal S1x512x1 .f32) (hsink : ∀ y, sink (ix3 0 y 0) = x8 (ix3 kh y 0))
  (mod : FVec Ideal S512x384 .f32 → FVec Ideal S512x384 .f32) (hmod : ∀ u y x, mod u (ix2 y x) = u (ix2 y x) + edge i s.val x)

include hca hcb ho hc hq hkk hv hbias hsink hmod

/-- Every number of a first pair's tile is the body's output there. -/
theorem leftTile_at (x : S1x128x128.Idx) (y z : Fin 512) (hy : y.val = 128 * s.val + (x 1).val) (hz : z.val = 256 * kh.val + (x 2).val) :
    leftTile ca cb o c ha hb hk q k v bias sink mod x = value i x0 x1 x2 x3 x4 x5 x6 x7 x8 y z := by
  subst hca hcb ho hc
  obtain ⟨r, l, rfl⟩ := tile_idx x
  change y.val = 128 * s.val + r.val at hy
  change z.val = 256 * kh.val + l.val at hz
  unfold leftTile value
  rw [tileL_at _ _ _ _ _ _ mod _ hmod ⟨l.val / 64, by omega⟩ r l rfl]
  have a1 : y.val / 128 = s.val := by omega
  have a2 : z.val / 256 = kh.val := by omega
  have a3 : 128 * (z.val / 64 % 4) = 128 * (l.val / 64) := by omega
  have a4 : 64 * (z.val / 64) = 256 * kh.val + 64 * (l.val / 64) := by omega
  have a5 : z.val / 64 % 2 = l.val / 64 := by omega
  have a6 : z.val % 128 = l.val := by omega
  have a7 : y.val % 128 = r.val := by omega
  have ey : (⟨128 * s.val + r.val, by omega⟩ : Fin 512) = y := Fin.ext hy.symm
  simp only [queries_slice _ _ ha (by omega), queries_slice _ _ hb (by omega), keys_slice _ _ _ hk (by omega) (by omega), hq, hkk, hv, hbias, hsink, a1, a2, a3, a4, a5, a6, a7, ey,
    Nat.add_assoc]

/-- Every number of a second pair's tile is the body's output there. -/
theorem rightTile_at (x : S1x128x128.Idx) (y z : Fin 512) (hy : y.val = 128 * s.val + (x 1).val) (hz : z.val = 256 * kh.val + 128 + (x 2).val) :
    rightTile ca cb o c ha hb hk q k v bias sink mod x = value i x0 x1 x2 x3 x4 x5 x6 x7 x8 y z := by
  subst hca hcb ho hc
  obtain ⟨r, l, rfl⟩ := tile_idx x
  change y.val = 128 * s.val + r.val at hy
  change z.val = 256 * kh.val + 128 + l.val at hz
  unfold rightTile value
  rw [tileR_at _ _ _ _ _ _ mod _ hmod ⟨l.val / 64, by omega⟩ r l rfl]
  have a1 : y.val / 128 = s.val := by omega
  have a2 : z.val / 256 = kh.val := by omega
  have a3 : 128 * (z.val / 64 % 4) = 256 + 128 * (l.val / 64) := by omega
  have a4 : 64 * (z.val / 64) = 256 * kh.val + 128 + 64 * (l.val / 64) := by omega
  have a5 : z.val / 64 % 2 = l.val / 64 := by omega
  have a6 : z.val % 128 = l.val := by omega
  have a7 : y.val % 128 = r.val := by omega
  have ey : (⟨128 * s.val + r.val, by omega⟩ : Fin 512) = y := Fin.ext hy.symm
  simp only [queries_slice _ _ ha (by omega), queries_slice _ _ hb (by omega), keys_slice _ _ _ hk (by omega) (by omega), hq, hkk, hv, hbias, hsink, a1, a2, a3, a4, a5, a6, a7, ey,
    Nat.add_assoc]

end

section
variable (x0 : Vec Ideal S1x512x512 .bf16) (x7 : Vec Ideal S2x512x384 .f32) (x8 : Vec Ideal S2x512x1 .f32)

theorem queries_0 (r : Fin 128) (l : Fin 512) : k0_pay9 (View.ld x0 r0_2) (ix2 r l) = x0 (ix3 0 ⟨128 * (0 : Fin 4).val + r.val, by omega⟩ l) := by
  pointwise [k0_pay9]; blk_ext
/-- The second block's queries. -/
theorem queries_1 (r : Fin 128) (l : Fin 512) : k0_pay19 (View.ld x0 r0_11) (ix2 r l) = x0 (ix3 0 ⟨128 * (1 : Fin 4).val + r.val, by omega⟩ l) := by
  pointwise [k0_pay19]; blk_ext
/-- The third block's queries. -/
theorem queries_2 (r : Fin 128) (l : Fin 512) : k0_pay40 (View.ld x0 r0_16) (ix2 r l) = x0 (ix3 0 ⟨128 * (2 : Fin 4).val + r.val, by omega⟩ l) := by
  pointwise [k0_pay40]; blk_ext
/-- The fourth block's queries. -/
theorem queries_3 (r : Fin 128) (l : Fin 512) : k0_pay56 (View.ld x0 r0_21) (ix2 r l) = x0 (ix3 0 ⟨128 * (3 : Fin 4).val + r.val, by omega⟩ l) := by
  pointwise [k0_pay56]; blk_ext
/-- The first key head's penalties. -/
theorem bias_0 (y : Fin 512) (x : Fin 384) : View.ld x7 r0_3 (ix3 0 y x) = x7 (ix3 (0 : Fin 2) y x) := by pointwise []; blk_ext
/-- The second key head's penalties. -/
theorem bias_1 (y : Fin 512) (x : Fin 384) : View.ld x7 r0_7 (ix3 0 y x) = x7 (ix3 (1 : Fin 2) y x) := by pointwise []; blk_ext
/-- The first key head's sinks. -/
theorem sink_0 (y : Fin 512) : View.ld x8 r0_4 (ix3 0 y 0) = x8 (ix3 (0 : Fin 2) y 0) := by pointwise []; blk_ext
/-- The second key head's sinks. -/
theorem sink_1 (y : Fin 512) : View.ld x8 r0_8 (ix3 0 y 0) = x8 (ix3 (1 : Fin 2) y 0) := by pointwise []; blk_ext

/-- The first block adds its edge term to its first 128 keys. -/
theorem edge_0 (i : grid0.Coords) (u : FVec Ideal S512x384 .f32) (y : Fin 512) (x : Fin 384) :
    first (k0_pay4 (F := Ideal) i) u (ix2 y x) = u (ix2 y x) + edge i (0 : Fin 4).val x := first_at _ u y x
/-- The second block adds none. -/
theorem edge_1 (i : grid0.Coords) (u : FVec Ideal S512x384 .f32) (y : Fin 512) (x : Fin 384) :
    id u (ix2 y x) = u (ix2 y x) + edge i (1 : Fin 4).val x := (add_zero (u (ix2 y x))).symm
/-- The third block adds none. -/
theorem edge_2 (i : grid0.Coords) (u : FVec Ideal S512x384 .f32) (y : Fin 512) (x : Fin 384) :
    id u (ix2 y x) = u (ix2 y x) + edge i (2 : Fin 4).val x := (add_zero (u (ix2 y x))).symm
/-- The fourth block adds its edge term to its last 128 keys. -/
theorem edge_3 (i : grid0.Coords) (u : FVec Ideal S512x384 .f32) (y : Fin 512) (x : Fin 384) :
    last (k0_pay5 (F := Ideal) i) u (ix2 y x) = u (ix2 y x) + edge i (3 : Fin 4).val x := last_at _ u y x

end

/-- The blocks of keys and values are read whole. -/
theorem near_ld (a : Vec Ideal S1x128x256 .bf16) (b : Vec Ideal S1x512x256 .bf16) (c : Vec Ideal S1x128x256 .bf16) (j : Fin 768) (l : Fin 256) :
    near (View.ld a r0_0) (View.ld b r0_1) (View.ld c r0_0) j l = near a b c j l := by
  have hs : ∀ (a : Vec Ideal S1x128x256 .bf16) (j : Fin 128) (l : Fin 256), View.ld a r0_0 (ix3 0 j l) = a (ix3 0 j l) := fun a j l => by pointwise []; blk_ext
  have hb : ∀ (j : Fin 512) (l : Fin 256), View.ld b r0_1 (ix3 0 j l) = b (ix3 0 j l) := fun j l => by pointwise []; blk_ext
  unfold near
  split_ifs
  exacts [hs a _ l, hb _ l, hs c _ l]

section
variable (i : grid0.Coords) (x0 : Vec Ideal S1x512x512 .bf16) (x1 : Vec Ideal S1x128x256 .bf16) (x2 : Vec Ideal S1x512x256 .bf16) (x3 : Vec Ideal S1x128x256 .bf16)
  (x4 : Vec Ideal S1x128x256 .bf16) (x5 : Vec Ideal S1x512x256 .bf16) (x6 : Vec Ideal S1x128x256 .bf16) (x7 : Vec Ideal S2x512x384 .f32) (x8 : Vec Ideal S2x512x1 .f32)

/-- The joined keys that the body reads are `near`. -/
theorem keys_read (j : Fin 768) (l : Fin 256) : k0_pay69 i x0 x1 x2 x3 x4 x5 x6 x7 x8 (ix2 j l) = near x1 x2 x3 j l :=
  (keys_at _ _ _ j l).trans (near_ld x1 x2 x3 j l)

/-- The joined values that the body reads are `near`. -/
theorem values_read (j : Fin 768) (l : Fin 256) : k0_pay70 i x0 x1 x2 x3 x4 x5 x6 x7 x8 (ix2 j l) = near x4 x5 x6 j l :=
  (values_at _ _ _ j l).trans (near_ld x4 x5 x6 j l)

end

/-- The body's output, number by number. -/
theorem body_at (i : grid0.Coords) (x0 : Vec Ideal S1x512x512 .bf16) (x1 : Vec Ideal S1x128x256 .bf16) (x2 : Vec Ideal S1x512x256 .bf16) (x3 : Vec Ideal S1x128x256 .bf16)
    (x4 : Vec Ideal S1x128x256 .bf16) (x5 : Vec Ideal S1x512x256 .bf16) (x6 : Vec Ideal S1x128x256 .bf16) (x7 : Vec Ideal S2x512x384 .f32) (x8 : Vec Ideal S2x512x1 .f32)
    (y : S1x512x512.Idx) : out0_9 i x0 x1 x2 x3 x4 x5 x6 x7 x8 y = value i x0 x1 x2 x3 x4 x5 x6 x7 x8 (y 1) (y 2) := by
  unfold out0_9 k0_pay99 k0_pay98 k0_pay97 k0_pay96 k0_pay95 k0_pay94 k0_pay93 k0_pay92 k0_pay91 k0_pay90 k0_pay89 k0_pay88 k0_pay87 k0_pay86 k0_pay85 k0_pay84 k0_pay83 k0_pay82
    k0_pay81 k0_pay80 k0_pay79 k0_pay78 k0_pay77 k0_pay76 k0_pay75 k0_pay74 k0_pay73 k0_pay72 k0_pay71
  canon_tiles x h
  case piece15 =>
    exact (congrFun (tiles_0_0 (k0_pay69 i x0 x1 x2 x3 x4 x5 x6 x7 x8) (k0_pay70 i x0 x1 x2 x3 x4 x5 x6 x7 x8) (k0_pay4 (F := Ideal) i) (View.ld x0 r0_2) (View.ld x7 r0_3) (View.ld x8 r0_4)).1 x).trans
      (leftTile_at i x0 x1 x2 x3 x4 x5 x6 x7 x8 0 0 _ _ _ _ rfl rfl rfl rfl _ _ _ _ (queries_0 x0) _ _ (keys_read i x0 x1 x2 x3 x4 x5 x6 x7 x8) (values_read i x0 x1 x2 x3 x4 x5 x6 x7 x8) _ (bias_0 x7) _ (sink_0 x8) _ (edge_0 i) x (y 1) (y 2) (by simp; omega) (by simp; omega))
  case piece14 =>
    exact (congrFun (tiles_0_0 (k0_pay69 i x0 x1 x2 x3 x4 x5 x6 x7 x8) (k0_pay70 i x0 x1 x2 x3 x4 x5 x6 x7 x8) (k0_pay4 (F := Ideal) i) (View.ld x0 r0_2) (View.ld x7 r0_3) (View.ld x8 r0_4)).2 x).trans
      (rightTile_at i x0 x1 x2 x3 x4 x5 x6 x7 x8 0 0 _ _ _ _ rfl rfl rfl rfl _ _ _ _ (queries_0 x0) _ _ (keys_read i x0 x1 x2 x3 x4 x5 x6 x7 x8) (values_read i x0 x1 x2 x3 x4 x5 x6 x7 x8) _ (bias_0 x7) _ (sink_0 x8) _ (edge_0 i) x (y 1) (y 2) (by simp; omega) (by simp; omega))
  case piece13 =>
    exact (congrFun (tiles_0_1 (k0_pay69 i x0 x1 x2 x3 x4 x5 x6 x7 x8) (k0_pay70 i x0 x1 x2 x3 x4 x5 x6 x7 x8) (k0_pay4 (F := Ideal) i) (View.ld x0 r0_2) (View.ld x7 r0_7) (View.ld x8 r0_8)).1 x).trans
      (leftTile_at i x0 x1 x2 x3 x4 x5 x6 x7 x8 0 1 _ _ _ _ rfl rfl rfl rfl _ _ _ _ (queries_0 x0) _ _ (keys_read i x0 x1 x2 x3 x4 x5 x6 x7 x8) (values_read i x0 x1 x2 x3 x4 x5 x6 x7 x8) _ (bias_1 x7) _ (sink_1 x8) _ (edge_0 i) x (y 1) (y 2) (by simp; omega) (by simp; omega))
  case piece12 =>
    exact (congrFun (tiles_0_1 (k0_pay69 i x0 x1 x2 x3 x4 x5 x6 x7 x8) (k0_pay70 i x0 x1 x2 x3 x4 x5 x6 x7 x8) (k0_pay4 (F := Ideal) i) (View.ld x0 r0_2) (View.ld x7 r0_7) (View.ld x8 r0_8)).2 x).trans
      (rightTile_at i x0 x1 x2 x3 x4 x5 x6 x7 x8 0 1 _ _ _ _ rfl rfl rfl rfl _ _ _ _ (queries_0 x0) _ _ (keys_read i x0 x1 x2 x3 x4 x5 x6 x7 x8) (values_read i x0 x1 x2 x3 x4 x5 x6 x7 x8) _ (bias_1 x7) _ (sink_1 x8) _ (edge_0 i) x (y 1) (y 2) (by simp; omega) (by simp; omega))
  case piece11 =>
    exact (congrFun (tiles_1_0 (k0_pay69 i x0 x1 x2 x3 x4 x5 x6 x7 x8) (k0_pay70 i x0 x1 x2 x3 x4 x5 x6 x7 x8) (View.ld x0 r0_11) (View.ld x7 r0_3) (View.ld x8 r0_4)).1 x).trans
      (leftTile_at i x0 x1 x2 x3 x4 x5 x6 x7 x8 1 0 _ _ _ _ rfl rfl rfl rfl _ _ _ _ (queries_1 x0) _ _ (keys_read i x0 x1 x2 x3 x4 x5 x6 x7 x8) (values_read i x0 x1 x2 x3 x4 x5 x6 x7 x8) _ (bias_0 x7) _ (sink_0 x8) _ (edge_1 i) x (y 1) (y 2) (by simp; omega) (by simp; omega))
  case piece10 =>
    exact (congrFun (tiles_1_0 (k0_pay69 i x0 x1 x2 x3 x4 x5 x6 x7 x8) (k0_pay70 i x0 x1 x2 x3 x4 x5 x6 x7 x8) (View.ld x0 r0_11) (View.ld x7 r0_3) (View.ld x8 r0_4)).2 x).trans
      (rightTile_at i x0 x1 x2 x3 x4 x5 x6 x7 x8 1 0 _ _ _ _ rfl rfl rfl rfl _ _ _ _ (queries_1 x0) _ _ (keys_read i x0 x1 x2 x3 x4 x5 x6 x7 x8) (values_read i x0 x1 x2 x3 x4 x5 x6 x7 x8) _ (bias_0 x7) _ (sink_0 x8) _ (edge_1 i) x (y 1) (y 2) (by simp; omega) (by simp; omega))
  case piece9 =>
    exact (congrFun (tiles_1_1 (k0_pay69 i x0 x1 x2 x3 x4 x5 x6 x7 x8) (k0_pay70 i x0 x1 x2 x3 x4 x5 x6 x7 x8) (View.ld x0 r0_11) (View.ld x7 r0_7) (View.ld x8 r0_8)).1 x).trans
      (leftTile_at i x0 x1 x2 x3 x4 x5 x6 x7 x8 1 1 _ _ _ _ rfl rfl rfl rfl _ _ _ _ (queries_1 x0) _ _ (keys_read i x0 x1 x2 x3 x4 x5 x6 x7 x8) (values_read i x0 x1 x2 x3 x4 x5 x6 x7 x8) _ (bias_1 x7) _ (sink_1 x8) _ (edge_1 i) x (y 1) (y 2) (by simp; omega) (by simp; omega))
  case piece8 =>
    exact (congrFun (tiles_1_1 (k0_pay69 i x0 x1 x2 x3 x4 x5 x6 x7 x8) (k0_pay70 i x0 x1 x2 x3 x4 x5 x6 x7 x8) (View.ld x0 r0_11) (View.ld x7 r0_7) (View.ld x8 r0_8)).2 x).trans
      (rightTile_at i x0 x1 x2 x3 x4 x5 x6 x7 x8 1 1 _ _ _ _ rfl rfl rfl rfl _ _ _ _ (queries_1 x0) _ _ (keys_read i x0 x1 x2 x3 x4 x5 x6 x7 x8) (values_read i x0 x1 x2 x3 x4 x5 x6 x7 x8) _ (bias_1 x7) _ (sink_1 x8) _ (edge_1 i) x (y 1) (y 2) (by simp; omega) (by simp; omega))
  case piece7 =>
    exact (congrFun (tiles_2_0 (k0_pay69 i x0 x1 x2 x3 x4 x5 x6 x7 x8) (k0_pay70 i x0 x1 x2 x3 x4 x5 x6 x7 x8) (View.ld x0 r0_16) (View.ld x7 r0_3) (View.ld x8 r0_4)).1 x).trans
      (leftTile_at i x0 x1 x2 x3 x4 x5 x6 x7 x8 2 0 _ _ _ _ rfl rfl rfl rfl _ _ _ _ (queries_2 x0) _ _ (keys_read i x0 x1 x2 x3 x4 x5 x6 x7 x8) (values_read i x0 x1 x2 x3 x4 x5 x6 x7 x8) _ (bias_0 x7) _ (sink_0 x8) _ (edge_2 i) x (y 1) (y 2) (by simp; omega) (by simp; omega))
  case piece6 =>
    exact (congrFun (tiles_2_0 (k0_pay69 i x0 x1 x2 x3 x4 x5 x6 x7 x8) (k0_pay70 i x0 x1 x2 x3 x4 x5 x6 x7 x8) (View.ld x0 r0_16) (View.ld x7 r0_3) (View.ld x8 r0_4)).2 x).trans
      (rightTile_at i x0 x1 x2 x3 x4 x5 x6 x7 x8 2 0 _ _ _ _ rfl rfl rfl rfl _ _ _ _ (queries_2 x0) _ _ (keys_read i x0 x1 x2 x3 x4 x5 x6 x7 x8) (values_read i x0 x1 x2 x3 x4 x5 x6 x7 x8) _ (bias_0 x7) _ (sink_0 x8) _ (edge_2 i) x (y 1) (y 2) (by simp; omega) (by simp; omega))
  case piece5 =>
    exact (congrFun (tiles_2_1 (k0_pay69 i x0 x1 x2 x3 x4 x5 x6 x7 x8) (k0_pay70 i x0 x1 x2 x3 x4 x5 x6 x7 x8) (View.ld x0 r0_16) (View.ld x7 r0_7) (View.ld x8 r0_8)).1 x).trans
      (leftTile_at i x0 x1 x2 x3 x4 x5 x6 x7 x8 2 1 _ _ _ _ rfl rfl rfl rfl _ _ _ _ (queries_2 x0) _ _ (keys_read i x0 x1 x2 x3 x4 x5 x6 x7 x8) (values_read i x0 x1 x2 x3 x4 x5 x6 x7 x8) _ (bias_1 x7) _ (sink_1 x8) _ (edge_2 i) x (y 1) (y 2) (by simp; omega) (by simp; omega))
  case piece4 =>
    exact (congrFun (tiles_2_1 (k0_pay69 i x0 x1 x2 x3 x4 x5 x6 x7 x8) (k0_pay70 i x0 x1 x2 x3 x4 x5 x6 x7 x8) (View.ld x0 r0_16) (View.ld x7 r0_7) (View.ld x8 r0_8)).2 x).trans
      (rightTile_at i x0 x1 x2 x3 x4 x5 x6 x7 x8 2 1 _ _ _ _ rfl rfl rfl rfl _ _ _ _ (queries_2 x0) _ _ (keys_read i x0 x1 x2 x3 x4 x5 x6 x7 x8) (values_read i x0 x1 x2 x3 x4 x5 x6 x7 x8) _ (bias_1 x7) _ (sink_1 x8) _ (edge_2 i) x (y 1) (y 2) (by simp; omega) (by simp; omega))
  case piece3 =>
    exact (congrFun (tiles_3_0 (k0_pay69 i x0 x1 x2 x3 x4 x5 x6 x7 x8) (k0_pay70 i x0 x1 x2 x3 x4 x5 x6 x7 x8) (k0_pay5 (F := Ideal) i) (View.ld x0 r0_21) (View.ld x7 r0_3) (View.ld x8 r0_4)).1 x).trans
      (leftTile_at i x0 x1 x2 x3 x4 x5 x6 x7 x8 3 0 _ _ _ _ rfl rfl rfl rfl _ _ _ _ (queries_3 x0) _ _ (keys_read i x0 x1 x2 x3 x4 x5 x6 x7 x8) (values_read i x0 x1 x2 x3 x4 x5 x6 x7 x8) _ (bias_0 x7) _ (sink_0 x8) _ (edge_3 i) x (y 1) (y 2) (by simp; omega) (by simp; omega))
  case piece2 =>
    exact (congrFun (tiles_3_0 (k0_pay69 i x0 x1 x2 x3 x4 x5 x6 x7 x8) (k0_pay70 i x0 x1 x2 x3 x4 x5 x6 x7 x8) (k0_pay5 (F := Ideal) i) (View.ld x0 r0_21) (View.ld x7 r0_3) (View.ld x8 r0_4)).2 x).trans
      (rightTile_at i x0 x1 x2 x3 x4 x5 x6 x7 x8 3 0 _ _ _ _ rfl rfl rfl rfl _ _ _ _ (queries_3 x0) _ _ (keys_read i x0 x1 x2 x3 x4 x5 x6 x7 x8) (values_read i x0 x1 x2 x3 x4 x5 x6 x7 x8) _ (bias_0 x7) _ (sink_0 x8) _ (edge_3 i) x (y 1) (y 2) (by simp; omega) (by simp; omega))
  case piece1 =>
    exact (congrFun (tiles_3_1 (k0_pay69 i x0 x1 x2 x3 x4 x5 x6 x7 x8) (k0_pay70 i x0 x1 x2 x3 x4 x5 x6 x7 x8) (k0_pay5 (F := Ideal) i) (View.ld x0 r0_21) (View.ld x7 r0_7) (View.ld x8 r0_8)).1 x).trans
      (leftTile_at i x0 x1 x2 x3 x4 x5 x6 x7 x8 3 1 _ _ _ _ rfl rfl rfl rfl _ _ _ _ (queries_3 x0) _ _ (keys_read i x0 x1 x2 x3 x4 x5 x6 x7 x8) (values_read i x0 x1 x2 x3 x4 x5 x6 x7 x8) _ (bias_1 x7) _ (sink_1 x8) _ (edge_3 i) x (y 1) (y 2) (by simp; omega) (by simp; omega))
  case piece0 =>
    exact (congrFun (tiles_3_1 (k0_pay69 i x0 x1 x2 x3 x4 x5 x6 x7 x8) (k0_pay70 i x0 x1 x2 x3 x4 x5 x6 x7 x8) (k0_pay5 (F := Ideal) i) (View.ld x0 r0_21) (View.ld x7 r0_7) (View.ld x8 r0_8)).2 x).trans
      (rightTile_at i x0 x1 x2 x3 x4 x5 x6 x7 x8 3 1 _ _ _ _ rfl rfl rfl rfl _ _ _ _ (queries_3 x0) _ _ (keys_read i x0 x1 x2 x3 x4 x5 x6 x7 x8) (values_read i x0 x1 x2 x3 x4 x5 x6 x7 x8) _ (bias_1 x7) _ (sink_1 x8) _ (edge_3 i) x (y 1) (y 2) (by simp; omega) (by simp; omega))

end Cert.AttnIdeal.Body
-- ==== Proof.AttnRefRow.lean ====
/- The reference's pieces at an index: banded keys and values, the mask, the slopes and the scores. -/
module

public import proofs.«01_k».proof.Proof.Gen.AttnRefIdeal.Read
public import proofs.«01_k».proof.Proof.AttnMath
public import Idealize.ShloMosaic.Lib.Pipeline.ValueKit
public import Idealize.ShloMosaic.Lib.Pointwise

@[expose] public section

set_option maxRecDepth 16384

noncomputable section

namespace Cert.AttnRefIdeal.Row

open Cert.AttnRefIdeal Cert.AttnRefIdeal.Gen Cert.AttnRefIdeal.Read Idealize.ShloMosaic Idealize.ShloMosaic.TcCoe Idealize.SL.Sem
open AttnMath

variable (q : FVec Ideal S16x4096x512 .f32) (k v : FVec Ideal S16x4096x128 .f32) (sk : FVec Ideal S8 .f32)

/-- A padded key (or value) at a place of a block's band: the entry itself where the place lies in the sequence. -/
theorem keys_at (n : Fin 16) (b : Fin 32) (x : Fin 384) (h : Fin 2) (d : Fin 64)
    (hx : 128 ≤ b.val * 128 + x.val) (hx' : b.val * 128 + x.val < 4224) :
    val_main_v7 (F := Ideal) k (ix5 n b x h d)
      = k (ix3 n ⟨b.val * 128 + x.val - 128, by omega⟩ ⟨h.val * 64 + d.val, by omega⟩) := by
  pointwise [val_main_v1, val_main_v2, val_main_v3, val_main_v4, val_main_v5, val_main_v6, val_main_v7, val_main_c, val_main_c_0, val_main_cst, val_main_c_1, val_main_c_2, val_main_c_3, val_main_c_4, val_main_c_5, val_main_c_6, val_main_cst_7, val_main_cst_8, val_main_cst_9, val_main_cst_10, val_main_cst_11, val_main_cst_12, val_main_cst_13]
  split_ifs <;> first | omega | exact congrArg k (congrArg (ix3 n · _) (Fin.ext (by simp only [] <;> omega)))

/-- The same of the values. -/
theorem values_at (n : Fin 16) (b : Fin 32) (x : Fin 384) (h : Fin 2) (d : Fin 64)
    (hx : 128 ≤ b.val * 128 + x.val) (hx' : b.val * 128 + x.val < 4224) :
    val_main_v14 (F := Ideal) v (ix5 n b x h d)
      = v (ix3 n ⟨b.val * 128 + x.val - 128, by omega⟩ ⟨h.val * 64 + d.val, by omega⟩) := by
  pointwise [val_main_v8, val_main_v9, val_main_v10, val_main_v11, val_main_v12, val_main_v13, val_main_v14, val_main_c, val_main_c_0, val_main_cst, val_main_c_1, val_main_c_2, val_main_c_3, val_main_c_4, val_main_c_5, val_main_c_6, val_main_cst_7, val_main_cst_8, val_main_cst_9, val_main_cst_10, val_main_cst_11, val_main_cst_12, val_main_cst_13]
  split_ifs <;> first | omega | exact congrArg v (congrArg (ix3 n · _) (Fin.ext (by simp only [] <;> omega)))

/-- The reference's test that a key's position lies in the sequence. -/
theorem inside (b : Fin 32) (x : Fin 384) :
    IntOp.andi
        (IntOp.cmpi CmpIPredicate.sge
          (IntOp.subi (IntOp.addi (IntOp.muli (BitVec.ofNat 32 b.val) 128#32) (BitVec.ofNat 32 x.val)) 128#32) 0#32)
        (IntOp.cmpi CmpIPredicate.slt
          (IntOp.subi (IntOp.addi (IntOp.muli (BitVec.ofNat 32 b.val) 128#32) (BitVec.ofNat 32 x.val)) 128#32) 4096#32)
      = if 128 ≤ b.val * 128 + x.val ∧ b.val * 128 + x.val < 4224 then 1#1 else 0#1 := by
  revert b x
  decide +kernel

/-- How far a key's place in the band lies from the query's row. -/
def away (r : Fin 128) (x : Fin 384) : BitVec 32 :=
  IntOp.absi (IntOp.subi (IntOp.subi (BitVec.ofNat 32 x.val) 128#32) (BitVec.ofNat 32 r.val))

/-- The reference's mask: the key lies in the sequence and within 128 positions. -/
theorem valid_at (b : Fin 32) (r : Fin 128) (x : Fin 384) :
    val_main_v52 (F := Ideal) (ix3 b r x)
      = if 128 ≤ b.val * 128 + x.val ∧ b.val * 128 + x.val < 4224 then IntOp.cmpi .sle (away r x) 128#32 else 0#1 := by
  pointwise [val_main_v19, val_main_v20, val_main_v21, val_main_v22, val_main_v23, val_main_v24, val_main_v25, val_main_v26, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_c, val_main_c_0, val_main_cst, val_main_c_1, val_main_c_2, val_main_c_3, val_main_c_4, val_main_c_5, val_main_c_6, val_main_cst_7, val_main_cst_8, val_main_cst_9, val_main_cst_10, val_main_cst_11, val_main_cst_12, val_main_cst_13]
  rw [inside]
  split_ifs
  · show IntOp.andi _ 1#1 = _
    unfold away; generalize IntOp.cmpi _ _ _ = w; revert w; decide
  · generalize IntOp.cmpi _ _ _ = w; revert w; decide

/-- Query head `4 h + g` has the slope `(1/2) ^ (4 h + g + 1)`. -/
theorem slopes_at (h : Fin 2) (g : Fin 4) :
    val_main_v63 (F := Ideal) (ix2 h g) = (((1 / 2 : ℝ) ^ (h.val * 4 + g.val + 1) : ℝ) : EReal) := by
  pointwise [val_main_v53, val_main_v54, val_main_v55, val_main_v56, val_main_v57, val_main_v58, val_main_v59, val_main_v60, val_main_v61, val_main_v62, val_main_v63, val_main_c, val_main_c_0, val_main_cst, val_main_c_1, val_main_c_2, val_main_c_3, val_main_c_4, val_main_c_5, val_main_c_6, val_main_cst_7, val_main_cst_8, val_main_cst_9, val_main_cst_10, val_main_cst_11, val_main_cst_12, val_main_cst_13]
  have hn : ∀ j : Fin 8, (FloatOps.sitofp (F := Ideal) FTy.f32 (BitVec.ofNat 32 j.val)) = ((j.val : ℝ) : EReal) := by
    intro j
    have : (BitVec.ofNat 32 j.val).toInt = (j.val : ℤ) := by revert j; decide
    show (((BitVec.ofNat 32 j.val).toInt : ℝ) : EReal) = _
    rw [this]; norm_num
  rw [word_two, word_minus_eight, word_eight, hn ⟨h.val * 4 + g.val, by omega⟩, Ideal.div_coe (by norm_num)]
  show Ideal.pow _ (_ * (((h.val * 4 + g.val : ℕ) : ℝ) + 1 : EReal) * _) = _
  generalize h.val * 4 + g.val = j
  have : ((-8 : ℝ) : EReal) * (((j : ℝ) : EReal) + 1) * ((1 / 8 : ℝ) : EReal) = ((-((j + 1 : ℕ) : ℝ) : ℝ) : EReal) := by
    rw [← EReal.coe_one, ← EReal.coe_add, ← EReal.coe_mul, ← EReal.coe_mul]
    congr 1; push_cast; ring
  rw [this]
  show ((Real.rpow 2 (-((j + 1 : ℕ) : ℝ)) : ℝ) : EReal) = _
  congr 1
  show (2 : ℝ) ^ (-((j + 1 : ℕ) : ℝ)) = _
  rw [Real.rpow_neg (by norm_num), Real.rpow_natCast, one_div, inv_pow]

/-- A score of the reference: the scaled product less the distance penalty where the mask holds, else negative infinity. -/
theorem score_at (n : Fin 16) (b : Fin 32) (h : Fin 2) (g : Fin 4) (r : Fin 128) (x : Fin 384) :
    val_main_v73 (F := Ideal) q k (ix6 n b h g r x)
      = Scalar.select (val_main_v52 (F := Ideal) (ix3 b r x))
          ((∑ d, (val_main_v7 (F := Ideal) k (ix5 n b x h d)
              * q (ix3 n ⟨b.val * 128 + r.val, by omega⟩ ⟨h.val * 256 + g.val * 64 + d.val, by omega⟩) : EReal)) * ((1 / 8 : ℝ) : EReal)
            - val_main_v63 (F := Ideal) (ix2 h g) * FloatOps.sitofp (F := Ideal) .f32 (away r x)) ⊥ := by
  pointwise [val_main_v0, val_main_v15, val_main_v16, val_main_v17, val_main_v18, val_main_v19, val_main_v20, val_main_v21, val_main_v22, val_main_v23, val_main_v24, val_main_v25, val_main_v26, val_main_v27, val_main_v28, val_main_v29, val_main_v64, val_main_v65, val_main_v66, val_main_v67, val_main_v68, val_main_v69, val_main_v70, val_main_v71, val_main_v72, val_main_v73, val_main_call0_v0, val_main_call1_v0, val_main_call2_v0, val_main_call2_v1, val_main_call2_v2, val_main_c, val_main_c_0, val_main_cst, val_main_c_1, val_main_c_2, val_main_c_3, val_main_c_4, val_main_c_5, val_main_c_6, val_main_cst_7, val_main_cst_8, val_main_cst_9, val_main_cst_10, val_main_cst_11, val_main_cst_12, val_main_cst_13]
  rw [word_eighth]
  show Scalar.select _ _ (Ideal.ofBits .f32 0xFF800000#32) = _
  rw [ofBits_bot]
  rfl

/-- The reference's greatest score of a row, a fold of maxima from negative infinity. -/
theorem max_at (n : Fin 16) (b : Fin 32) (h' : Fin 2) (g : Fin 4) (r : Fin 128) :
    val_main_v76 (F := Ideal) q k (ix5 n b h' g r)
      = Finset.fold max (Ideal.ofBits .f32 0xFF800000#32) (fun x => val_main_v73 (F := Ideal) q k (ix6 n b h' g r x)) Finset.univ := by
  unfold val_main_v76
  generalize val_main_v73 (F := Ideal) q k = y
  rw [Host.reduce_eq_fold]
  have h : S16x32x2x4x128x384.Reduces [5] S16x32x2x4x128 := by decide
  refine (Finset.fold_filter_eq_fold_of_fiber (max : EReal → EReal → EReal) _ (fun x : Fin 384 => h.lift (ix5 n b h' g r) x) ?_ ?_ _ y).trans ?_
  · intro a c e
    have := congrFun e 5
    exact Fin.ext (congrArg Fin.val this)
  · intro i
    rw [Shape.ReducesTo.drop_eq_drop _ h]
    exact ⟨fun e => ⟨i 5, by rw [← e]; exact h.lift_drop i⟩, fun ⟨x, e⟩ => by rw [← e]; exact h.drop_lift _ x⟩
  · refine Finset.fold_congr fun x _ => congrArg y (funext fun a => Fin.ext ?_)
    match a with
    | ⟨0, _⟩ => rfl
    | ⟨1, _⟩ => rfl
    | ⟨2, _⟩ => rfl
    | ⟨3, _⟩ => rfl
    | ⟨4, _⟩ => rfl
    | ⟨5, _⟩ => rfl

end Cert.AttnRefIdeal.Row
end
-- ==== Proof.AttnHost.lean ====
/- What the windows of the attention call hold: the scaled queries, the doubled keys and values, the
   distance penalties and the sink logits, each in terms of the program's arguments. -/
module

public import proofs.«01_k».proof.Proof.AttnTile
public import proofs.«01_k».proof.Proof.AttnRefRow

@[expose] public section

set_option maxRecDepth 16384

noncomputable section

open Idealize.ShloMosaic Idealize.ShloMosaic.TcCoe Idealize.SL.Sem
open Idealize.ShloMosaic.Pipeline (Dat)

namespace Cert.AttnIdeal.Host
open Cert.AttnIdeal Cert.AttnIdeal.Gen Cert.AttnIdeal.Value AttnMath Cert.AttnIdeal.Body

variable (m : (ℓ : Loc nD τ sig) → Buf (Elt Ideal) ℓ) (c : Dev nD) (t : Fin cfg0.N)

/-- The block every window is at, at every grid point. -/
theorem where_at : ∀ t : Fin cfg0.N, win0_0.index t = ![t.val / 8, t.val % 8, 0]
    ∧ win0_1.index t = ![t.val / 8, t.val % 8 * 4 - 1, 0]
    ∧ win0_2.index t = ![t.val / 8, t.val % 8, 0]
    ∧ win0_3.index t = ![t.val / 8, min (t.val % 8 * 4 + 4) 31, 0]
    ∧ win0_4.index t = ![t.val / 8, t.val % 8 * 4 - 1, 0]
    ∧ win0_5.index t = ![t.val / 8, t.val % 8, 0]
    ∧ win0_6.index t = ![t.val / 8, min (t.val % 8 * 4 + 4) 31, 0]
    ∧ win0_7.index t = ![0, 0, 0]
    ∧ win0_8.index t = ![0, 0, 0]
    ∧ win0_9.index t = ![t.val / 8, t.val % 8, 0] :=
  (by decide +kernel : ∀ t : Fin grid0.N, _)

/-- The batch of a grid point. -/
def batch (t : Fin cfg0.N) : Fin 16 := ⟨t.val / 8, by have := t.isLt; change t.val < 128 at this; omega⟩

/-- The sequence position of row `r` of a grid point. -/
def pos (t : Fin cfg0.N) (r : Fin 512) : Fin 4096 := ⟨t.val % 8 * 512 + r.val, by omega⟩

/-- The queries as the host makes them: an eighth of the layer's. -/
def scaled (q : FVec Ideal S16x4096x512 .f32) : FVec Ideal S16x4096x512 .bf16 :=
  truncf .bf16 (mulf q (broadcastInDim S16x4096x512 ![] bcast_S_S16x4096x512 (constant (F := Ideal) S_ .f32 0x3E000000#32))) bitsLt_bf16_f32

/-- The keys (or values) as the host makes them: each head's 64 columns twice. -/
def twice (k : FVec Ideal S16x4096x128 .f32) : FVec Ideal S16x4096x256 .bf16 :=
  truncf .bf16 (concatenate S16x4096x256 2 [⟨S16x4096x64, extractStridedSlice S16x4096x64 ![0, 0, 0] k slices_S16x4096x128_S16x4096x64_0_0_0⟩,
    ⟨S16x4096x64, extractStridedSlice S16x4096x64 ![0, 0, 0] k slices_S16x4096x128_S16x4096x64_0_0_0⟩,
    ⟨S16x4096x64, extractStridedSlice S16x4096x64 ![0, 0, 64] k slices_S16x4096x128_S16x4096x64_0_0_64⟩,
    ⟨S16x4096x64, extractStridedSlice S16x4096x64 ![0, 0, 64] k slices_S16x4096x128_S16x4096x64_0_0_64⟩]
    concatenates_S16x4096x64_S16x4096x64_S16x4096x64_S16x4096x64_S16x4096x256_d2) bitsLt_bf16_f32

/-- The query window's array is the scaled queries. -/
theorem entry_queries : V m c main_v2 = scaled (m ((c : Thread nD τ).loc main_arg0)) := by rfl
/-- The key windows' array is the doubled keys. -/
theorem entry_keys : V m c main_v8 = twice (m ((c : Thread nD τ).loc main_arg1)) := by rfl
/-- The value windows' array is the doubled values. -/
theorem entry_values : V m c main_v10 = twice (m ((c : Thread nD τ).loc main_arg2)) := by rfl

/-- A scaled query is the query times an eighth. -/
theorem scaled_at (q : FVec Ideal S16x4096x512 .f32) (n : Fin 16) (y : Fin 4096) (l : Fin 512) :
    scaled q (ix3 n y l) = q (ix3 n y l) * ((1 / 8 : ℝ) : EReal) := by
  pointwise [scaled]
  rw [word_eighth]

/-- Lane `l` of the doubled array is the lane of head `l / 128` that `l` repeats. -/
theorem twice_at (k : FVec Ideal S16x4096x128 .f32) (n : Fin 16) (y : Fin 4096) (l : Fin 256) :
    twice k (ix3 n y l) = k (ix3 n y ⟨l.val / 128 * 64 + l.val % 64, by omega⟩) := by
  pointwise [twice]
  split_ifs <;> exact congrArg k (congrArg (ix3 n y ·) (Fin.ext (by simp only [] <;> omega)))

/-- The query window at a grid point is its 512 rows of the scaled queries. -/
theorem q_at (r : Fin 512) (l : Fin 512) :
    iblk m c 0 t (ix3 0 r l) = scaled (m ((c : Thread nD τ).loc main_arg0)) (ix3 (batch t) (pos t r) l) := by
  rw [← entry_queries]
  blk_simp [iblk]
  refine congrArg (V m c main_v2) ?_
  blk_ext [where_at t] <;> simp [batch, pos]

/-- The key `j` at hand at a grid point, where there is one. -/
theorem key_near (j : Fin 768) (l : Fin 256) (h0 : 128 ≤ t.val % 8 * 512 + j.val) (h1 : t.val % 8 * 512 + j.val < 4224) :
    near (iblk m c 1 t) (iblk m c 2 t) (iblk m c 3 t) j l
      = m ((c : Thread nD τ).loc main_arg1) (ix3 (batch t) ⟨t.val % 8 * 512 + j.val - 128, by omega⟩ ⟨l.val / 128 * 64 + l.val % 64, by omega⟩) := by
  refine Eq.trans ?_ (twice_at (m ((c : Thread nD τ).loc main_arg1)) _ _ l)
  rw [← entry_keys]
  unfold near
  split_ifs
  · blk_simp [iblk]
    refine congrArg (V m c main_v8) ?_
    blk_ext [where_at t] <;> simp [batch, pos] <;> omega
  · blk_simp [iblk]
    refine congrArg (V m c main_v8) ?_
    blk_ext [where_at t] <;> simp [batch, pos] <;> omega
  · blk_simp [iblk]
    refine congrArg (V m c main_v8) ?_
    blk_ext [where_at t] <;> simp [batch, pos] <;> omega

/-- The value `j` at hand at a grid point, where there is one. -/
theorem value_near (j : Fin 768) (l : Fin 256) (h0 : 128 ≤ t.val % 8 * 512 + j.val) (h1 : t.val % 8 * 512 + j.val < 4224) :
    near (iblk m c 4 t) (iblk m c 5 t) (iblk m c 6 t) j l
      = m ((c : Thread nD τ).loc main_arg2) (ix3 (batch t) ⟨t.val % 8 * 512 + j.val - 128, by omega⟩ ⟨l.val / 128 * 64 + l.val % 64, by omega⟩) := by
  refine Eq.trans ?_ (twice_at (m ((c : Thread nD τ).loc main_arg2)) _ _ l)
  rw [← entry_values]
  unfold near
  split_ifs
  · blk_simp [iblk]
    refine congrArg (V m c main_v10) ?_
    blk_ext [where_at t] <;> simp [batch, pos] <;> omega
  · blk_simp [iblk]
    refine congrArg (V m c main_v10) ?_
    blk_ext [where_at t] <;> simp [batch, pos] <;> omega
  · blk_simp [iblk]
    refine congrArg (V m c main_v10) ?_
    blk_ext [where_at t] <;> simp [batch, pos] <;> omega

/-- The words of the eight slopes. -/
theorem slope_word (j : Fin 8) : Ideal.ofBits .f32 (lit0 j) = (((1 / 2 : ℝ) ^ (j.val + 1) : ℝ) : EReal) := by
  fin_cases j <;> (simp +decide [lit0, Ideal.ofBits, Ideal.ieee, Nat.shiftRight_eq_div_pow]; norm_num; rw [← EReal.coe_mul]; norm_num)

/-- How far a row's own position lies from each key's. -/
def dist : IVec S128x384 32 :=
  absi (subi (subi (iotaInDim S128x384 32 1) (broadcastInDim S128x384 ![] bcast_S_S128x384 (constantI S_ 32 128#32))) (iotaInDim S128x384 32 0))

/-- The bias as the host makes it: minus the slope times the distance where that is at most 128, minus infinity elsewhere. -/
def biases : FVec Ideal S2x512x384 .f32 :=
  shapeCast S2x512x384 (select (broadcastInDim S8x128x384 ![0, 1, 2] bcast_S1x128x384_S8x128x384_0_1_2
      (cmpi .sle (broadcastInDim S1x128x384 ![1, 2] bcast_S128x384_S1x128x384_1_2 dist) (broadcastInDim S1x128x384 ![] bcast_S_S1x128x384 (constantI S_ 32 128#32))))
    (mulf (broadcastInDim S8x128x384 ![0, 1, 2] bcast_S8x1x1_S8x128x384_0_1_2 (Host.negf (broadcastInDim S8x1x1 ![0] bcast_S8_S8x1x1_0 ((fun i => FloatOps.ofBits (F := Ideal) .f32 (lit0 (S8.rowMajor i))) : FVec Ideal S8 .f32))))
      (broadcastInDim S8x128x384 ![0, 1, 2] bcast_S1x128x384_S8x128x384_0_1_2 (sitofp (F := Ideal) .f32 (broadcastInDim S1x128x384 ![1, 2] bcast_S128x384_S1x128x384_1_2 dist))))
    (broadcastInDim S8x128x384 ![] bcast_S_S8x128x384 (constant (F := Ideal) S_ .f32 0xFF800000#32))) shapeCasts_S8x128x384_S2x512x384

/-- The bias window's array is the distance penalties. -/
theorem entry_bias : V m c main_v31 = biases := by rfl

/-- The sinks as the host makes them: each head's 128 times. -/
def sinks (s : FVec Ideal S8 .f32) : FVec Ideal S2x512x1 .f32 :=
  shapeCast S2x512x1 (shapeCast S1024 (broadcastInDim S8x128 ![0] bcast_S8_S8x128_0 s) shapeCasts_S8x128_S1024) shapeCasts_S1024_S2x512x1

/-- The sink window's array is the repeated sink logits. -/
theorem entry_sink : V m c main_v13 = sinks (m ((c : Thread nD τ).loc main_arg3)) := by rfl

/-- The repeated sink logits hold each query head's logit on its 128 rows. -/
theorem sinks_at (s : FVec Ideal S8 .f32) (kh : Fin 2) (g : Fin 4) (r : Fin 128) :
    sinks s (ix3 kh ⟨128 * g.val + r.val, by omega⟩ 0) = s (ix1 ⟨kh.val * 4 + g.val, by omega⟩) := by
  pointwise [sinks]
  exact congrArg s (congrArg ix1 (Fin.ext (by simp only [] <;> omega)))

open Cert.AttnRefIdeal.Row in
theorem biases_at (kh : Fin 2) (g : Fin 4) (r : Fin 128) (x : Fin 384) :
    biases (ix3 kh ⟨128 * g.val + r.val, by omega⟩ x)
      = Scalar.select (IntOp.cmpi .sle (away r x) 128#32) (-(((1 / 2 : ℝ) ^ (kh.val * 4 + g.val + 1) : ℝ) : EReal) * FloatOps.sitofp (F := Ideal) .f32 (away r x)) ⊥ := by
  have hj : ∀ j : Fin 8, S8.rowMajor (ix1 j) = j := fun j => by fin_cases j <;> rfl
  have ej : (⟨kh.val * 4 + (128 * g.val + r.val) / 128, by omega⟩ : Fin 8) = ⟨kh.val * 4 + g.val, by omega⟩ := Fin.ext (by simp only [] <;> omega)
  pointwise [biases, dist]
  rw [ej, hj, slope_word, ofBits_bot]
  rfl

/-- The sink window at a grid point gives each query head its logit. -/
theorem sink_at (kh : Fin 2) (g : Fin 4) (r : Fin 128) :
    iblk m c 8 t (ix3 kh ⟨128 * g.val + r.val, by omega⟩ 0) = m ((c : Thread nD τ).loc main_arg3) (ix1 ⟨kh.val * 4 + g.val, by omega⟩) := by
  refine Eq.trans ?_ (sinks_at (m ((c : Thread nD τ).loc main_arg3)) kh g r)
  rw [← entry_sink]
  blk_simp [iblk]
  refine congrArg (V m c main_v13) ?_
  blk_ext [where_at t]

open Cert.AttnRefIdeal.Row in
theorem bias_at (kh : Fin 2) (g : Fin 4) (r : Fin 128) (x : Fin 384) :
    iblk m c 7 t (ix3 kh ⟨128 * g.val + r.val, by omega⟩ x)
      = Scalar.select (IntOp.cmpi .sle (away r x) 128#32) (-(((1 / 2 : ℝ) ^ (kh.val * 4 + g.val + 1) : ℝ) : EReal) * FloatOps.sitofp (F := Ideal) .f32 (away r x)) ⊥ := by
  refine Eq.trans ?_ (biases_at kh g r x)
  rw [← entry_bias m c]
  blk_simp [iblk]
  refine congrArg (V m c main_v31) ?_
  blk_ext [where_at t]

end Cert.AttnIdeal.Host
-- ==== Proof.AttnRefOut.lean ====
/- The reference's result at an index: one softmax row over 384 keys, with the sink in its denominator. -/
module

public import proofs.«01_k».proof.Proof.Gen.AttnRefIdeal.Read
public import proofs.«01_k».proof.Proof.AttnMath
public import proofs.«01_k».proof.Proof.AttnRefRow
public import Idealize.ShloMosaic.Lib.Pipeline.ValueKit
public import Idealize.ShloMosaic.Lib.Pointwise

@[expose] public section

set_option maxRecDepth 16384

noncomputable section

namespace Cert.AttnRefIdeal.Row

open Cert.AttnRefIdeal Cert.AttnRefIdeal.Gen Cert.AttnRefIdeal.Read Idealize.ShloMosaic Idealize.ShloMosaic.TcCoe Idealize.SL.Sem
open AttnMath

variable (q : FVec Ideal S16x4096x512 .f32) (k v : FVec Ideal S16x4096x128 .f32) (sk : FVec Ideal S8 .f32)

/-- A row's greatest score, its sink among them. -/
theorem peak_at (n : Fin 16) (b : Fin 32) (h : Fin 2) (g : Fin 4) (r : Fin 128) :
    val_main_v79 (F := Ideal) q k sk (ix6 n b h g r 0)
      = peak (fun x => val_main_v73 (F := Ideal) q k (ix6 n b h g r x)) (sk (ix1 ⟨h.val * 4 + g.val, by omega⟩)) := by
  rw [val_main_v79_apply, val_main_v77_apply, val_main_v78_apply, val_main_v75_apply, val_main_v74_apply]
  have e : idx_main_v77 (ix6 n b h g r 0) = ix5 n b h g r := by funext a; fin_cases a <;> rfl
  have e' : idx_main_v74 (idx_main_v75 (idx_main_v78 (ix6 n b h g r 0))) = ix1 ⟨h.val * 4 + g.val, by omega⟩ := by
    funext a; fin_cases a; rfl
  rw [e, e', max_at]
  rfl

/-- A key's weight in the reference. -/
theorem weight_at (n : Fin 16) (b : Fin 32) (h : Fin 2) (g : Fin 4) (r : Fin 128) (x : Fin 384) :
    val_main_v82 (F := Ideal) q k sk (ix6 n b h g r x)
      = weight (fun x => val_main_v73 (F := Ideal) q k (ix6 n b h g r x)) (sk (ix1 ⟨h.val * 4 + g.val, by omega⟩)) x := by
  rw [val_main_v82_apply, val_main_v81_apply, val_main_v80_apply]
  have e : idx_main_v80 (ix6 n b h g r x) = ix6 n b h g r 0 := by funext a; fin_cases a <;> rfl
  rw [e, peak_at]
  rfl

/-- The sum of a row's weights in the reference. -/
theorem total_at (n : Fin 16) (b : Fin 32) (h : Fin 2) (g : Fin 4) (r : Fin 128) :
    val_main_v88 (F := Ideal) q k sk (ix6 n b h g r 0)
      = total (fun x => val_main_v73 (F := Ideal) q k (ix6 n b h g r x)) (sk (ix1 ⟨h.val * 4 + g.val, by omega⟩)) := by
  rw [val_main_v88_apply, val_main_v84_apply, val_main_v83_apply, val_main_v87_apply, val_main_v86_apply, val_main_v85_apply, val_main_v75_apply,
    val_main_v74_apply, peak_at, show val_main_cst_13 (F := Ideal) (Shape.Idx.first h_S_) = 0 from Ideal.ofBits_zero .f32, zero_add]
  have e : ∀ x, idx_main_v83 (idx_main_v84 (ix6 n b h g r 0)) x = ix6 n b h g r x := fun x => by funext a; fin_cases a <;> rfl
  have e' : idx_main_v74 (idx_main_v75 (idx_main_v85 (ix6 n b h g r 0))) = ix1 ⟨h.val * 4 + g.val, by omega⟩ := by
    funext a; fin_cases a; rfl
  rw [e', Finset.sum_congr rfl fun x _ => (congrArg (val_main_v82 (F := Ideal) q k sk) (e x)).trans (weight_at q k sk n b h g r x)]
  rfl

/-- The reference's output of a token and a lane: the weights of the row's scores, normalised first. -/
theorem out_at (n : Fin 16) (b : Fin 32) (h : Fin 2) (g : Fin 4) (r : Fin 128) (d : Fin 64) :
    val_main_v93 (F := Ideal) q k v sk (ix3 n ⟨b.val * 128 + r.val, by omega⟩ ⟨h.val * 256 + g.val * 64 + d.val, by omega⟩)
      = normalisedFirst (fun x => val_main_v73 (F := Ideal) q k (ix6 n b h g r x)) (sk (ix1 ⟨h.val * 4 + g.val, by omega⟩))
          (fun x => val_main_v14 (F := Ideal) v (ix5 n b x h d)) := by
  have hw := weight_at q k sk n b h g r
  have ht := total_at q k sk n b h g r
  have ho := val_main_v91_apply q k v sk (ix6 n b h d g r)
  unfold val_main_v93 val_main_v92
  generalize val_main_v91 (F := Ideal) q k v sk = z at ho ⊢
  unfold val_main_v90 val_main_v89 at ho
  generalize val_main_v88 (F := Ideal) q k sk = tt at ht ho
  generalize val_main_v82 (F := Ideal) q k sk = w at hw ho
  generalize val_main_v73 (F := Ideal) q k = y at hw ht ⊢
  generalize val_main_v14 (F := Ideal) v = vv at ho ⊢
  have hl : ∀ x : Fin 384, lidx_main_v91 (ix6 n b h d g r) x = ix5 n b x h d := fun x => by funext a; fin_cases a <;> rfl
  have hr : ∀ x : Fin 384, ridx_main_v91 (ix6 n b h d g r) x = ix6 n b h g r x := fun x => by funext a; fin_cases a <;> rfl
  have hd : ∀ x : Fin 384, Host.divf (F := Ideal) (φ := .f32) w (broadcastInDim S16x32x2x4x128x384 ![0, 1, 2, 3, 4, 5] bcast_S16x32x2x4x128x1_S16x32x2x4x128x384_0_1_2_3_4_5 tt) (ix6 n b h g r x)
      = Ideal.div (w (ix6 n b h g r x)) (tt (ix6 n b h g r 0)) := fun x => by pointwise []
  pointwise []
  rw [ho]
  unfold normalisedFirst
  refine Finset.sum_congr rfl fun x _ => ?_
  rw [hl, hr, hd, hw, ht]

end Cert.AttnRefIdeal.Row
end
-- ==== Proof.AttnVal.lean ====
/- The kernel's row of scores and values is the reference's, so its result array is the reference's result. -/
module

public import proofs.«01_k».proof.Proof.AttnHost
public import proofs.«01_k».proof.Proof.AttnRefOut

@[expose] public section

set_option maxRecDepth 16384

noncomputable section

open Idealize.ShloMosaic Idealize.ShloMosaic.TcCoe Idealize.SL.Sem
open Idealize.ShloMosaic.Pipeline (Dat)

namespace Cert.AttnRefIdeal.Row
open Cert.AttnRefIdeal Cert.AttnRefIdeal.Gen Cert.AttnRefIdeal.Read AttnMath

variable (q : FVec Ideal S16x4096x512 .f32) (k v : FVec Ideal S16x4096x128 .f32) (sk : FVec Ideal S8 .f32)
  (n : Fin 16) (b : Fin 32) (h : Fin 2) (g : Fin 4) (r : Fin 128) (x : Fin 384)

/-- The score of a key within the sequence and within 128 of the query. -/
theorem score_in (hi : 128 ≤ b.val * 128 + x.val ∧ b.val * 128 + x.val < 4224) (hc : IntOp.cmpi .sle (away r x) 128#32 = 1#1) :
    val_main_v73 (F := Ideal) q k (ix6 n b h g r x)
      = (∑ d : Fin 64, (k (ix3 n ⟨b.val * 128 + x.val - 128, by omega⟩ ⟨h.val * 64 + d.val, by omega⟩)
            * q (ix3 n ⟨b.val * 128 + r.val, by omega⟩ ⟨h.val * 256 + g.val * 64 + d.val, by omega⟩) : EReal)) * ((1 / 8 : ℝ) : EReal)
          - (((1 / 2 : ℝ) ^ (h.val * 4 + g.val + 1) : ℝ) : EReal) * (((away r x).toInt : ℝ) : EReal) := by
  rw [score_at, valid_at, if_pos hi, hc, slopes_at]
  simp only [keys_at k n b x h _ hi.1 hi.2]
  rfl

/-- Every other score is minus infinity. -/
theorem score_out (ho : ¬ ((128 ≤ b.val * 128 + x.val ∧ b.val * 128 + x.val < 4224) ∧ IntOp.cmpi .sle (away r x) 128#32 = 1#1)) :
    val_main_v73 (F := Ideal) q k (ix6 n b h g r x) = ⊥ := by
  rw [score_at, valid_at]
  split_ifs with hi
  · have hc : IntOp.cmpi .sle (away r x) 128#32 = 0#1 := by
      have h01 : ∀ w : BitVec 1, w ≠ 1#1 → w = 0#1 := by decide
      exact h01 _ fun e => ho ⟨hi, e⟩
    rw [hc]
    rfl
  · rfl

/-- A sum of reals is a real. -/
theorem real_sum (s : Finset (Fin 64)) (f : Fin 64 → EReal) (hf : ∀ d, ∃ a : ℝ, f d = a) : ∃ a : ℝ, ∑ d ∈ s, f d = a := by
  choose a ha using hf
  refine ⟨∑ d ∈ s, a d, ?_⟩
  rw [Finset.sum_congr rfl fun d _ => ha d]
  induction s using Finset.cons_induction with
  | empty => simp
  | cons d s hd ih => rw [Finset.sum_cons, Finset.sum_cons, ih, EReal.coe_add]

variable (hq : ∀ i, ∃ a : ℝ, q i = (a : EReal)) (hk : ∀ i, ∃ a : ℝ, k i = (a : EReal))
include hq hk

/-- Such a score is a real when the queries and the keys are finite. -/
theorem score_real (hi : 128 ≤ b.val * 128 + x.val ∧ b.val * 128 + x.val < 4224) (hc : IntOp.cmpi .sle (away r x) 128#32 = 1#1) :
    ∃ a : ℝ, val_main_v73 (F := Ideal) q k (ix6 n b h g r x) = (a : EReal) := by
  rw [score_in q k n b h g r x hi hc]
  obtain ⟨a, ha⟩ := real_sum Finset.univ (fun d : Fin 64 => (k (ix3 n ⟨b.val * 128 + x.val - 128, by omega⟩ ⟨h.val * 64 + d.val, by omega⟩)
            * q (ix3 n ⟨b.val * 128 + r.val, by omega⟩ ⟨h.val * 256 + g.val * 64 + d.val, by omega⟩) : EReal)) fun d => by
    obtain ⟨a, ha⟩ := hk (ix3 n ⟨b.val * 128 + x.val - 128, by omega⟩ ⟨h.val * 64 + d.val, by omega⟩)
    obtain ⟨a', ha'⟩ := hq (ix3 n ⟨b.val * 128 + r.val, by omega⟩ ⟨h.val * 256 + g.val * 64 + d.val, by omega⟩)
    exact ⟨a * a', by rw [ha, ha', EReal.coe_mul]⟩
  rw [ha]
  exact ⟨a * (1 / 8) - (1 / 2) ^ (h.val * 4 + g.val + 1) * ((away r x).toInt : ℝ), by push_cast; rfl⟩

/-- No score is infinite. -/
theorem score_ne_top : val_main_v73 (F := Ideal) q k (ix6 n b h g r x) ≠ ⊤ := by
  by_cases ho : (128 ≤ b.val * 128 + x.val ∧ b.val * 128 + x.val < 4224) ∧ IntOp.cmpi .sle (away r x) 128#32 = 1#1
  · obtain ⟨a, ha⟩ := score_real q k n b h g r x hq hk ho.1 ho.2
    rw [ha]
    exact EReal.coe_ne_top a
  · rw [score_out q k n b h g r x ho]
    exact bot_ne_top

/-- A query's own key has a real score. -/
theorem own_ne_bot : val_main_v73 (F := Ideal) q k (ix6 n b h g r ⟨128 + r.val, by omega⟩) ≠ ⊥ := by
  have hc : ∀ r : Fin 128, IntOp.cmpi .sle (away r ⟨128 + r.val, by omega⟩) 128#32 = 1#1 := by decide +kernel
  obtain ⟨a, ha⟩ := score_real q k n b h g r ⟨128 + r.val, by omega⟩ hq hk ⟨by simp only [] <;> omega, by simp only [] <;> omega⟩ (hc r)
  rw [ha]
  exact EReal.coe_ne_bot a

end Cert.AttnRefIdeal.Row

namespace Cert.AttnIdeal.Bridge
open Cert.AttnIdeal Cert.AttnIdeal.Gen Cert.AttnIdeal.Value Cert.AttnIdeal.Body Cert.AttnIdeal.Host AttnMath
open Cert.AttnRefIdeal.Row (away)

/-- The further mask at a grid point: nothing within the sequence, minus infinity before its start and past its end. -/
theorem edge_at (t : Fin cfg0.N) (s : Fin 4) (x : Fin 384) :
    edge (grid0.coords t) s.val x
      = if 128 ≤ (t.val % 8 * 4 + s.val) * 128 + x.val ∧ (t.val % 8 * 4 + s.val) * 128 + x.val < 4224 then 0 else ⊥ := by
  have hi : ∀ t : Fin grid0.N, Scalar.cmpi .eq (BitVec.ofNat 32 (grid0.coords t 1).val) 0#32 = (if t.val % 8 = 0 then 1#1 else 0#1)
      ∧ Scalar.cmpi .eq (BitVec.ofNat 32 (grid0.coords t 1).val) 7#32 = (if t.val % 8 = 7 then 1#1 else 0#1) := by decide +kernel
  have h4 : k0_pay4 (F := Ideal) (grid0.coords t) = if t.val % 8 = 0 then (⊥ : EReal) else 0 := by
    unfold k0_pay4
    show Scalar.select (Scalar.cmpi .eq (BitVec.ofNat 32 (grid0.coords t 1).val) 0#32) (⊥ : EReal) (Ideal.ofBits .f32 0x00000000#32) = _
    rw [(hi t).1, Ideal.ofBits_zero]
    split_ifs <;> rfl
  have h5 : k0_pay5 (F := Ideal) (grid0.coords t) = if t.val % 8 = 7 then (⊥ : EReal) else 0 := by
    unfold k0_pay5
    show Scalar.select (Scalar.cmpi .eq (BitVec.ofNat 32 (grid0.coords t 1).val) 7#32) (⊥ : EReal) (Ideal.ofBits .f32 0x00000000#32) = _
    rw [(hi t).2, Ideal.ofBits_zero]
    split_ifs <;> rfl
  unfold edge
  rw [h4, h5]
  have hx := x.isLt
  have hs := s.isLt
  split_ifs <;> first | rfl | omega

variable (m : (ℓ : Loc nD τ sig) → Buf (Elt Ideal) ℓ) (c : Dev nD) (t : Fin cfg0.N)
  (q : FVec Ideal S16x4096x512 .f32) (k v : FVec Ideal S16x4096x128 .f32) (sk : FVec Ideal S8 .f32)
  (eq : m ((c : Thread nD τ).loc main_arg0) = q) (ek : m ((c : Thread nD τ).loc main_arg1) = k)
  (ev : m ((c : Thread nD τ).loc main_arg2) = v) (es : m ((c : Thread nD τ).loc main_arg3) = sk)
  (hq : ∀ i, ∃ a : ℝ, q i = (a : EReal)) (hk : ∀ i, ∃ a : ℝ, k i = (a : EReal)) (hs : ∀ i, sk i ≠ ⊤)
include eq ek ev es hq hk hs

/-- What a grid point stores is the reference's value there. -/
theorem point_at (s : Fin 4) (r : Fin 128) (h : Fin 2) (g : Fin 4) (d : Fin 64) :
    value (grid0.coords t) (iblk m c 0 t) (iblk m c 1 t) (iblk m c 2 t) (iblk m c 3 t) (iblk m c 4 t) (iblk m c 5 t) (iblk m c 6 t) (iblk m c 7 t) (iblk m c 8 t)
        ⟨128 * s.val + r.val, by omega⟩ ⟨h.val * 256 + g.val * 64 + d.val, by omega⟩
      = Cert.AttnRefIdeal.Read.val_main_v93 (F := Ideal) q k v sk
          (ix3 (batch t) ⟨(t.val % 8 * 4 + s.val) * 128 + r.val, by omega⟩ ⟨h.val * 256 + g.val * 64 + d.val, by omega⟩) := by
  refine Eq.trans ?_ (Cert.AttnRefIdeal.Row.out_at q k v sk (batch t) ⟨t.val % 8 * 4 + s.val, by omega⟩ h g r d).symm
  have a1 : (128 * s.val + r.val) / 128 = s.val := by omega
  have a2 : (h.val * 256 + g.val * 64 + d.val) / 256 = h.val := by omega
  have a3 : (h.val * 256 + g.val * 64 + d.val) / 64 % 4 = g.val := by omega
  have a4 : 64 * ((h.val * 256 + g.val * 64 + d.val) / 64) = h.val * 256 + g.val * 64 := by omega
  have a7 : (128 * s.val + r.val) % 128 = r.val := by omega
  unfold value
  simp only [a1, a2, a3, a4, a7]
  have hb := fun x => bias_at m c t h g r x
  have hsk := sink_at m c t h g r
  unfold cell
  rw [show (⟨h.val, by omega⟩ : Fin 2) = h from rfl, hsk, es]
  simp only [hb]
  refine Eq.trans (congrArg (fun S => normalisedLast S _ _) (funext fun x => ?_)) (last_eq_first ⟨128 + r.val, by omega⟩
    (Cert.AttnRefIdeal.Row.own_ne_bot q k (batch t) ⟨t.val % 8 * 4 + s.val, by omega⟩ h g r hq hk)
    (fun x => Cert.AttnRefIdeal.Row.score_ne_top q k (batch t) ⟨t.val % 8 * 4 + s.val, by omega⟩ h g r x hq hk) (hs _) _ _ fun x hx => ?_)
  · rw [edge_at]
    by_cases ho : (128 ≤ (t.val % 8 * 4 + s.val) * 128 + x.val ∧ (t.val % 8 * 4 + s.val) * 128 + x.val < 4224) ∧ IntOp.cmpi .sle (away r x) 128#32 = 1#1
    · obtain ⟨hi, hc⟩ := ho
      rw [Cert.AttnRefIdeal.Row.score_in q k (batch t) ⟨t.val % 8 * 4 + s.val, by omega⟩ h g r x hi hc, if_pos hi, add_zero, hc,
        sum_mul_real _ _ _ (by norm_num), sub_eq_add_neg, ← EReal.neg_mul]
      refine congrArg₂ (fun a b : EReal => a + b) (Finset.sum_congr rfl fun d' _ => ?_) rfl
      rw [q_at, scaled_at, eq, key_near m c t _ _ (by simp only [] <;> omega) (by simp only [] <;> omega), ek, mul_comm (k _) (q _), mul_right_comm]
      refine congrArg₂ (fun a b : EReal => a * b * ((1 / 8 : ℝ) : EReal)) (congrArg q ?_) (congrArg k ?_)
      · exact congrArg (ix3 (batch t) · _) (Fin.ext (by simp only [pos] <;> omega))
      · exact congrArg₂ (ix3 (batch t)) (Fin.ext (by simp only [] <;> omega)) (Fin.ext (by simp only [] <;> omega))
    · rw [Cert.AttnRefIdeal.Row.score_out q k (batch t) ⟨t.val % 8 * 4 + s.val, by omega⟩ h g r x ho]
      split_ifs with hi
      · have hc : IntOp.cmpi .sle (away r x) 128#32 = 0#1 := by
          have h01 : ∀ w : BitVec 1, w ≠ 1#1 → w = 0#1 := by decide
          exact h01 _ fun e => ho ⟨hi, e⟩
        rw [hc, add_zero]
        exact EReal.add_bot _
      · exact EReal.add_bot _
  · have hi : 128 ≤ (t.val % 8 * 4 + s.val) * 128 + x.val ∧ (t.val % 8 * 4 + s.val) * 128 + x.val < 4224 := by
      by_contra hn
      exact hx (Cert.AttnRefIdeal.Row.score_out q k (batch t) ⟨t.val % 8 * 4 + s.val, by omega⟩ h g r x fun e => hn e.1)
    rw [value_near m c t _ _ (by simp only [] <;> omega) (by simp only [] <;> omega), ev,
      Cert.AttnRefIdeal.Row.values_at v (batch t) ⟨t.val % 8 * 4 + s.val, by omega⟩ x h d hi.1 hi.2]
    exact congrArg v (congrArg₂ (ix3 (batch t)) (Fin.ext (by simp only [] <;> omega)) (Fin.ext (by simp only [] <;> omega)))

/-- What a grid point stores at any row and lane is the reference's value there. -/
theorem point (y z : Fin 512) :
    out0_9 (grid0.coords t) (iblk m c 0 t) (iblk m c 1 t) (iblk m c 2 t) (iblk m c 3 t) (iblk m c 4 t) (iblk m c 5 t) (iblk m c 6 t) (iblk m c 7 t) (iblk m c 8 t) (ix3 0 y z)
      = Cert.AttnRefIdeal.Read.val_main_v93 (F := Ideal) q k v sk (ix3 (batch t) (pos t y) z) := by
  rw [body_at]
  have H := point_at m c t q k v sk eq ek ev es hq hk hs ⟨y.val / 128, by omega⟩ ⟨y.val % 128, by omega⟩ ⟨z.val / 256, by omega⟩ ⟨z.val / 64 % 4, by omega⟩ ⟨z.val % 64, by omega⟩
  have e1 : (⟨128 * (y.val / 128) + y.val % 128, by omega⟩ : Fin 512) = y := Fin.ext (by simp only [] <;> omega)
  have e2 : (⟨z.val / 256 * 256 + z.val / 64 % 4 * 64 + z.val % 64, by omega⟩ : Fin 512) = z := Fin.ext (by simp only [] <;> omega)
  have e3 : (⟨(t.val % 8 * 4 + y.val / 128) * 128 + y.val % 128, by omega⟩ : Fin 4096) = pos t y := Fin.ext (by simp only [pos] <;> omega)
  simp only [e1, e2, e3] at H
  exact H

/-- The result array after the run is the reference's. -/
theorem final : (dats m 0 c).arrAt 9 (cfgs 0).N = Cert.AttnRefIdeal.Read.val_main_v93 (F := Ideal) q k v sk := by
  refine (dats m 0 c).arrAt_eq_of_covers 9 _ (by decide +kernel) fun t hf y => ?_
  blk_simp; rw [after0_9]
  idx_vars y
  obtain rfl : y0 = 0 := Subsingleton.elim _ _
  refine (point m c t q k v sk eq ek ev es hq hk hs y1 y2).trans (congrArg _ ?_)
  blk_ext [where_at t] <;> simp [batch, pos]

end Cert.AttnIdeal.Bridge
-- ==== Proof.AttnClaim.lean ====
/- The algebraic claim of the attention program: from finite queries and keys, and no sink logit at
   plus infinity, its result is the reference's. -/
module

public import proofs.«01_k».proof.Defs
public import proofs.«01_k».proof.Proof.AttnVal
public import proofs.«01_k».proof.Proof.Gen.AttnRefIdeal.Run
public import Idealize.ShloMosaic.Adequacy
public import Idealize.ShloMosaic.Lib.Quiescent
public import Idealize.ShloMosaic.Lib.StableHlo.Predicate
public import Idealize.ShloMosaic.Init

@[expose] public section

set_option maxRecDepth 16384

noncomputable section

open Idealize.ShloMosaic Idealize.ShloMosaic.TcCoe Idealize.SL.Sem

namespace Cert.Pre_finite

/-- The shapes of the precondition's broadcasts agree. -/
theorem facts : Facts where
  bcast_S_S16x4096x512 := by decide
  bcast_S_S16x4096x128 := by decide
  bcast_S_S8 := by decide

variable [Facts] (q : FVec Ideal S16x4096x512 .f32) (k v : FVec Ideal S16x4096x128 .f32) (sk : FVec Ideal S8 .f32)

/-- A number below the word of plus infinity is not plus infinity. -/
theorem below (a : EReal) (h : BitVec.ofBool (decide (a < Ideal.ofBits .f32 0x7F800000#32)) = 1#1) : a ≠ ⊤ := by
  have e : Ideal.ofBits .f32 0x7F800000#32 = ⊤ := by simp [Ideal.ofBits, Ideal.ieee]
  rw [e, Idealize.ShloMosaic.StableHlo.Predicate.ofBool_eq_one_iff, decide_eq_true_eq] at h
  exact h.ne

/-- A number whose magnitude is not plus infinity is a real. -/
theorem real (a : EReal) (h : max a (-a) ≠ ⊤) : ∃ b : ℝ, a = b := by
  induction a with
  | bot => simp at h
  | top => simp at h
  | coe b => exact ⟨b, rfl⟩

/-- Under the precondition every query is a real number, … -/
theorem queries (h : (fn (F := Ideal) q k v sk).1 = fun _ => 1#1) (i : S16x4096x512.Idx) : ∃ a : ℝ, q i = a :=
  real _ (below _ (congrFun h i))

/-- … so is every key, … -/
theorem keys (h : (fn (F := Ideal) q k v sk).2.1 = fun _ => 1#1) (i : S16x4096x128.Idx) : ∃ a : ℝ, k i = a :=
  real _ (below _ (congrFun h i))

/-- … and no sink logit is plus infinity. -/
theorem sinks (h : (fn (F := Ideal) q k v sk).2.2 = fun _ => 1#1) (i : S8.Idx) : sk i ≠ ⊤ :=
  below _ (congrFun h i)

end Cert.Pre_finite

/-- Kernel and reference, from agreeing arguments under the precondition, end with equal results. -/
theorem Cert.AttnIdeal.Bridge.algebraic [Cert.Pre_finite.Facts] : Cert.algebraic_AttnIdeal_AttnRefIdeal_pre_finite := by
  pair_intro
  · run_from Cert.AttnIdeal.Gen.run_main m g
    · exact Cert.AttnIdeal.Gen.V_main_arg0 m c
    · exact Cert.AttnIdeal.Gen.V_main_arg1 m c
    · exact Cert.AttnIdeal.Gen.V_main_arg2 m c
    · exact Cert.AttnIdeal.Gen.V_main_arg3 m c
  · run_from Cert.AttnRefIdeal.Value.run m' g'
    obtain ⟨h0, h1, h2, h3⟩ := hagree c
    obtain ⟨p0, p1, p3⟩ := hpre c
    refine (Cert.AttnRefIdeal.Read.val_main_v93_eq m' c).trans ?_
    rw [h0, h1, h2, h3]
    exact (Cert.AttnIdeal.Bridge.final m c _ _ _ _ rfl rfl rfl rfl
      (Cert.Pre_finite.queries _ _ _ _ p0) (Cert.Pre_finite.keys _ _ _ _ p1) (Cert.Pre_finite.sinks _ _ _ _ p3)).symm

/-- The reference runs, keeps its arguments and has no semaphore. -/
theorem Cert.AttnRefIdeal.Row.frame : Cert.quiescent_AttnRefIdeal := fun m ρ _ =>
  (θ_run Cert.AttnRefIdeal.defs _ _).mono
    (fun r h => ⟨fun c => (h c).2, sem_eq_zero_of_no_sems (by decide) r.2⟩)
    (Cert.AttnRefIdeal.Value.run (F := Ideal) m ρ)

end
-- ==== Proof.ProjRows.lean ====
/- The projection: its kernel's and its reference's rows. -/
module

public import proofs.«01_k».proof.Proof.Gen.ProjIdeal.Skeleton
public import proofs.«01_k».proof.Proof.Gen.ProjRefIdeal.Read
public import proofs.«01_k».proof.Proof.LayerMath
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Rows
open Cert.ProjIdeal Cert.ProjIdeal.Gen LayerMath

/-- The kernel's product at a row and a column. -/
theorem prod_at (x : FVec Ideal S1x512x1024 .f32) (g b : FVec Ideal S1x1024 .f32) (w : FVec Ideal S1024x1536 .bf16)
    (r : Fin 512) (j : Fin 1536) :
    k0_pay4 (F := Ideal) x g b w (ix2 r j)
      = ∑ k : Fin 1024, ln (fun k => x (ix3 0 r k)) (fun k => g (ix2 0 k)) (fun k => b (ix2 0 k)) k * w (ix2 k j) := by
  pointwise [k0_pay4]
  rfl

variable (p : FVec Ideal S512x1536 .f32)

theorem k_piece (r : Fin 512) (j : Fin 256) : k0_pay2 p (ix3 0 r j) = p (ix2 r ⟨1024 + j.val, by omega⟩) := by
  pointwise [k0_pay2]

theorem v_piece (r : Fin 512) (j : Fin 256) : k0_pay3 p (ix3 0 r j) = p (ix2 r ⟨1280 + j.val, by omega⟩) := by
  pointwise [k0_pay3]

variable (x : FVec Ideal S1x512x1024 .f32) (g b : FVec Ideal S1x1024 .f32) (w : FVec Ideal S1024x1536 .bf16)

theorem u_piece (r j : Fin 512) :
    k0_pay5 (F := Ideal) x g b w (ix3 0 r j) = k0_pay4 x g b w (ix2 r ⟨j.val, by omega⟩) := by
  pointwise [k0_pay5]

theorem q_piece (r j : Fin 512) :
    k0_pay1 (k0_pay6 (F := Ideal) x g b w) (ix3 0 r j)
      = (k0_pay4 (F := Ideal) x g b w (ix2 r ⟨512 + j.val, by omega⟩) : EReal) * Ideal.ofBits .f32 0x3E000000#32 := by
  pointwise [k0_pay1, k0_pay6]

end Cert.ProjIdeal.Rows

namespace Cert.ProjRefIdeal.Rows
open Cert.ProjRefIdeal Cert.ProjRefIdeal.Gen Cert.ProjRefIdeal.Read LayerMath

variable (x : FVec Ideal S16x4096x1024 .f32) (g b : FVec Ideal S1024 .f32) (w : FVec Ideal S1024x1280 .f32)

/-- The reference's product at a row and a column. -/
theorem prod_at (n : Fin 16) (s : Fin 4096) (j : Fin 1280) :
    val_main_v24 (F := Ideal) x g b w (ix3 n s j)
      = ∑ k : Fin 1024, ln (fun k => x (ix3 n s k)) (fun k => g (ix1 k)) (fun k => b (ix1 k)) k * w (ix2 k j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3]
  rfl

/-- The keys' and the values' column that column `j` of a doubled head is a copy of. -/
def once (j : Fin 256) : Nat := j.val / 128 * 64 + j.val % 64

theorem u_at (n : Fin 16) (s : Fin 4096) (j : Fin 512) :
    val_main_v25 (F := Ideal) x g b w (ix3 n s j) = val_main_v24 (F := Ideal) x g b w (ix3 n s ⟨j.val, by omega⟩) := by
  pointwise [val_main_v25]

theorem q_at (n : Fin 16) (s : Fin 4096) (j : Fin 512) :
    val_main_v29 (F := Ideal) x g b w (ix3 n s j)
      = val_main_v24 (F := Ideal) x g b w (ix3 n s ⟨512 + j.val, by omega⟩) * Ideal.ofBits .f32 0x3E000000#32 := by
  pointwise [val_main_v29, val_main_v28, val_main_v27, val_main_v26, val_main_cst_4]

theorem k_at (n : Fin 16) (s : Fin 4096) (j : Fin 256) :
    val_main_v34 (F := Ideal) x g b w (ix3 n s j)
      = val_main_v24 (F := Ideal) x g b w (ix3 n s ⟨1024 + once j, by unfold once; omega⟩) := by
  pointwise [val_main_v34, val_main_v33, val_main_v32, val_main_v31, val_main_v30]
  rfl

theorem v_at (n : Fin 16) (s : Fin 4096) (j : Fin 256) :
    val_main_v39 (F := Ideal) x g b w (ix3 n s j)
      = val_main_v24 (F := Ideal) x g b w (ix3 n s ⟨1152 + once j, by unfold once; omega⟩) := by
  pointwise [val_main_v39, val_main_v38, val_main_v37, val_main_v36, val_main_v35]
  rfl

end Cert.ProjRefIdeal.Rows
end
-- ==== Proof.ProjVal.lean ====
/- The value of the projection kernel: its four results. -/
module

public import proofs.«01_k».proof.Proof.Gen.ProjIdeal.Value
public import proofs.«01_k».proof.Proof.ProjRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Bridge
open Cert.ProjIdeal Cert.ProjIdeal.Gen Cert.ProjIdeal.Value LayerMath

variable (m : (ℓ : Loc nD τ sig) → Buf (Elt Ideal) ℓ) (c : Dev nD) (t : Fin cfg0.N)

/-- The block every window is at, at every grid point. -/
theorem where_at : ∀ t : Fin cfg0.N, win0_0.index t = ![t.val / 8, t.val % 8, 0]
    ∧ win0_1.index t = ![0, 0]
    ∧ win0_2.index t = ![0, 0]
    ∧ win0_3.index t = ![0, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0] :=
  (by decide +kernel : ∀ t : Fin grid0.N, _)

/-- The batch of a grid point. -/
def batch (t : Fin cfg0.N) : Fin 16 := ⟨t.val / 8, by have := t.isLt; change t.val < 128 at this; omega⟩

/-- The sequence position of row `r` of a grid point. -/
def pos (t : Fin cfg0.N) (r : Fin 512) : Fin 4096 := ⟨t.val % 8 * 512 + r.val, by omega⟩

/-- The column of the input matrix that a column of the extended one is a copy of. -/
def source (j : Fin 1536) : Fin 1280 :=
  ⟨if j.val < 1024 then j.val else 1024 + ((j.val - 1024) / 128 * 64 + (j.val - 1024) % 64), by split <;> omega⟩

/-- The layer input's block. -/
theorem x_at (r : Fin 512) (k : Fin 1024) : iblk m c 0 t (ix3 0 r k) = m ((c : Thread nD τ).loc main_arg0) (ix3 (batch t) (pos t r) k) := by
  blk_point [iblk, V, where_at t] <;> simp [batch, pos]

/-- The embedding's gain. -/
theorem g_at (k : Fin 1024) : iblk m c 1 t (ix2 0 k) = m ((c : Thread nD τ).loc main_arg1) (ix1 k) := by
  blk_point [iblk, V, where_at t]

/-- The embedding's offset. -/
theorem b_at (k : Fin 1024) : iblk m c 2 t (ix2 0 k) = m ((c : Thread nD τ).loc main_arg2) (ix1 k) := by
  blk_point [iblk, V, where_at t]

/-- The extended matrix as the host makes it: the matrix's first 1024 columns, then each head's 64 columns twice. -/
def extended (w : FVec Ideal S1024x1280 .f32) : FVec Ideal S1024x1536 .bf16 :=
  truncf .bf16 (concatenate S1024x1536 1 [⟨S1024x1024, extractStridedSlice S1024x1024 ![0, 0] w slices_S1024x1280_S1024x1024_0_0⟩, ⟨S1024x64, extractStridedSlice S1024x64 ![0, 1024] w slices_S1024x1280_S1024x64_0_1024⟩, ⟨S1024x64, extractStridedSlice S1024x64 ![0, 1024] w slices_S1024x1280_S1024x64_0_1024⟩, ⟨S1024x64, extractStridedSlice S1024x64 ![0, 1088] w slices_S1024x1280_S1024x64_0_1088⟩, ⟨S1024x64, extractStridedSlice S1024x64 ![0, 1088] w slices_S1024x1280_S1024x64_0_1088⟩, ⟨S1024x64, extractStridedSlice S1024x64 ![0, 1152] w slices_S1024x1280_S1024x64_0_1152⟩, ⟨S1024x64, extractStridedSlice S1024x64 ![0, 1152] w slices_S1024x1280_S1024x64_0_1152⟩, ⟨S1024x64, extractStridedSlice S1024x64 ![0, 1216] w slices_S1024x1280_S1024x64_0_1216⟩, ⟨S1024x64, extractStridedSlice S1024x64 ![0, 1216] w slices_S1024x1280_S1024x64_0_1216⟩] concatenates_S1024x1024_S1024x64_S1024x64_S1024x64_S1024x64_S1024x64_S1024x64_S1024x64_S1024x64_S1024x1536_d1) bitsLt_bf16_f32

/-- The region finds the extended matrix. -/
theorem entry_extended : V m c main_v6 = extended (m ((c : Thread nD τ).loc main_arg3)) := by
  rfl

/-- A column of the extended matrix is its source column. -/
theorem extended_at (w : FVec Ideal S1024x1280 .f32) (k : Fin 1024) (j : Fin 1536) :
    extended w (ix2 k j) = w (ix2 k (source j)) := by
  pointwise [extended]
  split_ifs <;> refine congrArg (fun q => w (ix2 k q)) (Fin.ext ?_) <;> simp only [source] <;> split_ifs <;> omega

/-- The extended input matrix, every head's columns twice. -/
theorem w_at (k : Fin 1024) (j : Fin 1536) :
    iblk m c 3 t (ix2 k j) = m ((c : Thread nD τ).loc main_arg3) (ix2 k (source j)) := by
  refine Eq.trans ?_ (extended_at (m ((c : Thread nD τ).loc main_arg3)) k j)
  rw [← entry_extended]
  blk_simp [iblk]
  refine congrArg (V m c main_v6) ?_
  blk_ext [where_at t]

/-- The kernel's product at a row and a column is the reference's at the source column. -/
theorem prod_block (r : Fin 512) (j : Fin 1536) :
    k0_pay4 (F := Ideal) (iblk m c 0 t) (iblk m c 1 t) (iblk m c 2 t) (iblk m c 3 t) (ix2 r j)
      = Cert.ProjRefIdeal.Read.val_main_v24 (F := Ideal) (m ((c : Thread nD τ).loc main_arg0)) (m ((c : Thread nD τ).loc main_arg1)) (m ((c : Thread nD τ).loc main_arg2)) (m ((c : Thread nD τ).loc main_arg3)) (ix3 (batch t) (pos t r) (source j)) := by
  rw [Rows.prod_at, Cert.ProjRefIdeal.Rows.prod_at]
  simp only [x_at, g_at, b_at, w_at]

/-- What a grid point stores of the Fourier channels is the reference's value there. -/
theorem point4 (r : Fin 512) (j : Fin 512) :
    out0_4 (F := Ideal) (iblk m c 0 t) (iblk m c 1 t) (iblk m c 2 t) (iblk m c 3 t) (ix3 0 r j)
      = Cert.ProjRefIdeal.Read.val_main_v25 (F := Ideal) (m ((c : Thread nD τ).loc main_arg0)) (m ((c : Thread nD τ).loc main_arg1)) (m ((c : Thread nD τ).loc main_arg2)) (m ((c : Thread nD τ).loc main_arg3)) (ix3 (batch t) (pos t r) j) := by
  unfold out0_4
  frame_out
  have e : source ⟨j.val, by omega⟩ = ⟨j.val, by omega⟩ :=
    Fin.ext (by simp only [source, Cert.ProjRefIdeal.Rows.once]; split_ifs <;> omega)
  rw [Rows.u_piece, prod_block, Cert.ProjRefIdeal.Rows.u_at, e]

/-- The Fourier channels after the run are the reference's. -/
theorem final4 : (dats m 0 c).arrAt 4 (cfgs 0).N = Cert.ProjRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  idx_vars y
  obtain rfl : y0 = 0 := Subsingleton.elim _ _
  refine (point4 m c t y1 y2).trans (congrArg _ ?_)
  blk_ext [where_at t] <;> simp [batch, pos]

/-- What a grid point stores of the scaled queries is the reference's value there. -/
theorem point5 (r : Fin 512) (j : Fin 512) :
    out0_5 (F := Ideal) (iblk m c 0 t) (iblk m c 1 t) (iblk m c 2 t) (iblk m c 3 t) (ix3 0 r j)
      = Cert.ProjRefIdeal.Read.val_main_v29 (F := Ideal) (m ((c : Thread nD τ).loc main_arg0)) (m ((c : Thread nD τ).loc main_arg1)) (m ((c : Thread nD τ).loc main_arg2)) (m ((c : Thread nD τ).loc main_arg3)) (ix3 (batch t) (pos t r) j) := by
  unfold out0_5
  frame_out
  have e : source ⟨512 + j.val, by omega⟩ = ⟨512 + j.val, by omega⟩ :=
    Fin.ext (by simp only [source, Cert.ProjRefIdeal.Rows.once]; split_ifs <;> omega)
  rw [Rows.q_piece, prod_block, Cert.ProjRefIdeal.Rows.q_at, e]

/-- The scaled queries after the run are the reference's. -/
theorem final5 : (dats m 0 c).arrAt 5 (cfgs 0).N = Cert.ProjRefIdeal.Read.val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  idx_vars y
  obtain rfl : y0 = 0 := Subsingleton.elim _ _
  refine (point5 m c t y1 y2).trans (congrArg _ ?_)
  blk_ext [where_at t] <;> simp [batch, pos]

/-- What a grid point stores of the doubled keys is the reference's value there. -/
theorem point6 (r : Fin 512) (j : Fin 256) :
    out0_6 (F := Ideal) (iblk m c 0 t) (iblk m c 1 t) (iblk m c 2 t) (iblk m c 3 t) (ix3 0 r j)
      = Cert.ProjRefIdeal.Read.val_main_v34 (F := Ideal) (m ((c : Thread nD τ).loc main_arg0)) (m ((c : Thread nD τ).loc main_arg1)) (m ((c : Thread nD τ).loc main_arg2)) (m ((c : Thread nD τ).loc main_arg3)) (ix3 (batch t) (pos t r) j) := by
  unfold out0_6 k0_pay7
  frame_out
  have e : source ⟨1024 + j.val, by omega⟩ = ⟨1024 + Cert.ProjRefIdeal.Rows.once j, by unfold Cert.ProjRefIdeal.Rows.once; omega⟩ :=
    Fin.ext (by simp only [source, Cert.ProjRefIdeal.Rows.once]; split_ifs <;> omega)
  rw [Rows.k_piece, prod_block, Cert.ProjRefIdeal.Rows.k_at, e]

/-- The doubled keys after the run are the reference's. -/
theorem final6 : (dats m 0 c).arrAt 6 (cfgs 0).N = Cert.ProjRefIdeal.Read.val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  idx_vars y
  obtain rfl : y0 = 0 := Subsingleton.elim _ _
  refine (point6 m c t y1 y2).trans (congrArg _ ?_)
  blk_ext [where_at t] <;> simp [batch, pos]

/-- What a grid point stores of the doubled values is the reference's value there. -/
theorem point7 (r : Fin 512) (j : Fin 256) :
    out0_7 (F := Ideal) (iblk m c 0 t) (iblk m c 1 t) (iblk m c 2 t) (iblk m c 3 t) (ix3 0 r j)
      = Cert.ProjRefIdeal.Read.val_main_v39 (F := Ideal) (m ((c : Thread nD τ).loc main_arg0)) (m ((c : Thread nD τ).loc main_arg1)) (m ((c : Thread nD τ).loc main_arg2)) (m ((c : Thread nD τ).loc main_arg3)) (ix3 (batch t) (pos t r) j) := by
  unfold out0_7 k0_pay7
  frame_out
  have e : source ⟨1280 + j.val, by omega⟩ = ⟨1152 + Cert.ProjRefIdeal.Rows.once j, by unfold Cert.ProjRefIdeal.Rows.once; omega⟩ :=
    Fin.ext (by simp only [source, Cert.ProjRefIdeal.Rows.once]; split_ifs <;> omega)
  rw [Rows.v_piece, prod_block, Cert.ProjRefIdeal.Rows.v_at, e]

/-- The doubled values after the run are the reference's. -/
theorem final7 : (dats m 0 c).arrAt 7 (cfgs 0).N = Cert.ProjRefIdeal.Read.val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]
  idx_vars y
  obtain rfl : y0 = 0 := Subsingleton.elim _ _
  refine (point7 m c t y1 y2).trans (congrArg _ ?_)
  blk_ext [where_at t] <;> simp [batch, pos]

end Cert.ProjIdeal.Bridge
end
-- ==== Proof.PostClaim.lean ====
/- The algebraic claim of the Post program: after its run each result is the reference's. -/
module

public import proofs.«01_k».proof.Defs
public import proofs.«01_k».proof.Proof.PostVal
public import proofs.«01_k».proof.Proof.Gen.PostRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.PostIdeal.Bridge.algebraic : Cert.algebraic_PostIdeal_PostRefIdeal := by
  pair_intro
  · run_from Cert.PostIdeal.Gen.run_main m g
  · run_from Cert.PostRefIdeal.Value.run m' g'
    obtain ⟨h0, h1, h2, h3, h4, h5, h6, h7, h8, h9, h10, h11⟩ := hagree c
    refine (Cert.PostRefIdeal.Read.val_main_v60_eq m' c).trans ?_
    rw [h0, h1, h2, h5, h6, h7, h8, h9, h10, h11]
    exact (Cert.PostIdeal.Bridge.final m c).symm

/-- The reference runs, keeps its arguments and has no semaphore. -/
theorem Cert.PostRefIdeal.Row.frame : Cert.quiescent_PostRefIdeal := fun m ρ _ =>
  (θ_run Cert.PostRefIdeal.defs _ _).mono
    (fun r h => ⟨fun c => (h c).2, sem_eq_zero_of_no_sems (by decide) r.2⟩)
    (Cert.PostRefIdeal.Value.run (F := Ideal) m ρ)

end
-- ==== Proof.ProjClaim.lean ====
/- The algebraic claim of the Proj program: after its run each result is the reference's. -/
module

public import proofs.«01_k».proof.Defs
public import proofs.«01_k».proof.Proof.ProjVal
public import proofs.«01_k».proof.Proof.Gen.ProjRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.ProjIdeal.Bridge.algebraic : Cert.algebraic_ProjIdeal_ProjRefIdeal := by
  pair_intro
  · run_from Cert.ProjIdeal.Gen.run_main m g
  · run_from Cert.ProjRefIdeal.Value.run m' g'
    · exact (Cert.ProjIdeal.Bridge.final4 m c).symm
    · exact (Cert.ProjIdeal.Bridge.final5 m c).symm
    · exact (Cert.ProjIdeal.Bridge.final6 m c).symm
    · exact (Cert.ProjIdeal.Bridge.final7 m c).symm

/-- The reference runs, keeps its arguments and has no semaphore. -/
theorem Cert.ProjRefIdeal.Row.frame : Cert.quiescent_ProjRefIdeal := fun m ρ _ =>
  (θ_run Cert.ProjRefIdeal.defs _ _).mono
    (fun r h => ⟨fun c => (h c).2.2.2.2, sem_eq_zero_of_no_sems (by decide) r.2⟩)
    (Cert.ProjRefIdeal.Value.run (F := Ideal) m ρ)

end
-- ==== Proof.SampleRefRow.lean ====
module

public import proofs.«01_k».proof.Proof.Gen.SampleRefIdeal.Read
public import proofs.«01_k».proof.Proof.LayerMath
public import Idealize.ShloMosaic.Lib.Pointwise

@[expose] public section

set_option maxRecDepth 16384

noncomputable section

open Idealize.ShloMosaic Idealize.ShloMosaic.TcCoe Idealize.SL.Sem

namespace Cert.SampleRefIdeal.Row
open Cert.SampleRefIdeal Cert.SampleRefIdeal.Gen Cert.SampleRefIdeal.Read LayerMath

/-- The additions over a row begin at zero. -/
theorem start0 (i : S_.Idx) : val_main_cst_0 (F := Ideal) i = 0 := Ideal.ofBits_zero .f32

variable (x : FVec Ideal S1x16384x1024 .f32) (f a : FVec Ideal S1x16384x512 .f32) (wo : FVec Ideal S1024x1024 .f32)
  (g b g2 b2 : FVec Ideal S1024 .f32) (w1 : FVec Ideal S1024x4096 .f32) (w2 : FVec Ideal S4096x1024 .f32)

/-- The reference's row after its mixing branch. -/
theorem mixed_at (s : Fin 16384) (j : Fin 1024) :
    val_main_v28 (F := Ideal) x f a wo g b (ix3 0 s j)
      = mixed (fun k => x (ix3 0 s k)) (fun k => f (ix3 0 s k)) (fun k => a (ix3 0 s k))
          (fun k l => wo (ix2 k l)) (fun k => g (ix1 k)) (fun k => b (ix1 k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_1, val_main_cst_2, val_main_cst_3, val_main_cst_4]
  simp only [start0, zero_add]
  rfl

/-- The reference's row after its MLP branch. -/
theorem after_at (s : Fin 16384) (j : Fin 1024) :
    val_main_v60 (F := Ideal) x f a wo g b w1 w2 g2 b2 (ix3 0 s j)
      = afterMlp (fun k => val_main_v28 (F := Ideal) x f a wo g b (ix3 0 s k)) (fun k l => w1 (ix2 k l))
          (fun k l => w2 (ix2 k l)) (fun k => g2 (ix1 k)) (fun k => b2 (ix1 k)) j := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_5, val_main_cst_6, val_main_cst_7, val_main_cst_8, val_main_cst_9, val_main_cst_10, val_main_cst_11]
  rfl

end Cert.SampleRefIdeal.Row
end
-- ==== Proof.SampleVal.lean ====
/- The value of the post kernel at the sample batch's shapes: the row after the output projection, the residual normalisation and the MLP. -/
module

public import proofs.«01_k».proof.Proof.Gen.SampleIdeal.Value
public import proofs.«01_k».proof.Proof.PostBody
public import proofs.«01_k».proof.Proof.SampleRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SampleIdeal.Bridge
open Cert.SampleIdeal Cert.SampleIdeal.Gen Cert.SampleIdeal.Value LayerMath

variable (m : (ℓ : Loc nD τ sig) → Buf (Elt Ideal) ℓ) (c : Dev nD) (t : Fin cfg0.N)

/-- The block every window is at, at every grid point: row block `t` of the one sequence, the weights whole. -/
theorem where_at : ∀ t : Fin cfg0.N, win0_0.index t = ![0, t.val, 0]
    ∧ win0_1.index t = ![0, t.val, 0]
    ∧ win0_2.index t = ![0, t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, t.val, 0] :=
  (by decide +kernel : ∀ t : Fin grid0.N, _)

/-- The sequence position of row `r` of a grid point. -/
def pos (t : Fin cfg0.N) (r : Fin 512) : Fin 16384 := ⟨t.val * 512 + r.val, by have := t.isLt; change t.val < 32 at this; omega⟩

/-- The layer input's block. -/
theorem x_at (r : Fin 512) (k : Fin 1024) :
    iblk m c 0 t (ix3 0 r k) = m ((c : Thread nD τ).loc main_arg0) (ix3 0 (pos t r) k) := by
  blk_point [iblk, V, where_at t] <;> simp [pos]

/-- The Fourier channels' block. -/
theorem f_at (r : Fin 512) (k : Fin 512) :
    iblk m c 1 t (ix3 0 r k) = m ((c : Thread nD τ).loc main_arg1) (ix3 0 (pos t r) k) := by
  blk_point [iblk, V, where_at t] <;> simp [pos]

/-- The attention channels' block. -/
theorem a_at (r : Fin 512) (k : Fin 512) :
    iblk m c 2 t (ix3 0 r k) = m ((c : Thread nD τ).loc main_arg2) (ix3 0 (pos t r) k) := by
  blk_point [iblk, V, where_at t] <;> simp [pos]

/-- The output matrix. -/
theorem wo_at (k l : Fin 1024) :
    iblk m c 5 t (ix2 k l) = m ((c : Thread nD τ).loc main_arg5) (ix2 k l) := by
  blk_point [iblk, V, where_at t]

/-- The mixing gain. -/
theorem g_at (k : Fin 1024) :
    iblk m c 6 t (ix2 0 k) = m ((c : Thread nD τ).loc main_arg6) (ix1 k) := by
  blk_point [iblk, V, where_at t]

/-- The mixing offset. -/
theorem b_at (k : Fin 1024) :
    iblk m c 7 t (ix2 0 k) = m ((c : Thread nD τ).loc main_arg7) (ix1 k) := by
  blk_point [iblk, V, where_at t]

/-- The MLP's gain. -/
theorem g2_at (k : Fin 1024) :
    iblk m c 10 t (ix2 0 k) = m ((c : Thread nD τ).loc main_arg10) (ix1 k) := by
  blk_point [iblk, V, where_at t]

/-- The MLP's offset. -/
theorem b2_at (k : Fin 1024) :
    iblk m c 11 t (ix2 0 k) = m ((c : Thread nD τ).loc main_arg11) (ix1 k) := by
  blk_point [iblk, V, where_at t]

/-- The first MLP matrix. -/
theorem up_at (k : Fin 1024) (l : Fin 4096) :
    iblk m c 8 t (ix2 k l) = m ((c : Thread nD τ).loc main_arg8) (ix2 k l) := by
  blk_point [iblk, V, where_at t]

/-- The second MLP matrix. -/
theorem down_at (k : Fin 4096) (l : Fin 1024) :
    iblk m c 9 t (ix2 k l) = m ((c : Thread nD τ).loc main_arg9) (ix2 k l) := by
  blk_point [iblk, V, where_at t]

/-- The body's stored block is the same function of its blocks at both batches' shapes. -/
theorem same_body : @out0_12 Ideal _ = @Cert.PostIdeal.Gen.out0_12 Ideal _ := rfl

/-- What a grid point stores is the reference's value there. -/
theorem point (r : Fin 512) (j : Fin 1024) :
    out0_12 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix3 0 r j)
      = Cert.SampleRefIdeal.Read.val_main_v60 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 0 (pos t r) j) := by
  rw [same_body, Cert.PostIdeal.Body.body_at, Cert.SampleRefIdeal.Row.after_at]
  simp only [funext fun k => Cert.SampleRefIdeal.Row.mixed_at _ _ _ _ _ _ (pos t r) k,
    x_at, f_at, a_at, wo_at, g_at, b_at, g2_at, b2_at, up_at, down_at]

/-- The result array after the run is the reference's. -/
theorem final : (dats m 0 c).arrAt 12 (cfgs 0).N = Cert.SampleRefIdeal.Read.val_main_v60 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp; rw [after0_12]
  idx_vars y
  obtain rfl : y0 = 0 := Subsingleton.elim _ _
  refine (point m c t y1 y2).trans (congrArg _ ?_)
  blk_ext [where_at t] <;> simp [pos]

end Cert.SampleIdeal.Bridge
end
-- ==== Proof.SampleClaim.lean ====
/- The algebraic claim of the Sample program: after its run each result is the reference's. -/
module

public import proofs.«01_k».proof.Defs
public import proofs.«01_k».proof.Proof.SampleVal
public import proofs.«01_k».proof.Proof.Gen.SampleRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.SampleIdeal.Bridge.algebraic : Cert.algebraic_SampleIdeal_SampleRefIdeal := by
  pair_intro
  · run_from Cert.SampleIdeal.Gen.run_main m g
  · run_from Cert.SampleRefIdeal.Value.run m' g'
    obtain ⟨h0, h1, h2, h3, h4, h5, h6, h7, h8, h9, h10, h11⟩ := hagree c
    refine (Cert.SampleRefIdeal.Read.val_main_v60_eq m' c).trans ?_
    rw [h0, h1, h2, h5, h6, h7, h8, h9, h10, h11]
    exact (Cert.SampleIdeal.Bridge.final m c).symm

/-- The reference runs, keeps its arguments and has no semaphore. -/
theorem Cert.SampleRefIdeal.Row.frame : Cert.quiescent_SampleRefIdeal := fun m ρ _ =>
  (θ_run Cert.SampleRefIdeal.defs _ _).mono
    (fun r h => ⟨fun c => (h c).2, sem_eq_zero_of_no_sems (by decide) r.2⟩)
    (Cert.SampleRefIdeal.Value.run (F := Ideal) m ρ)

end
-- ==== Proof.FourierMath.lean ====
/- The mathematics of the Fourier calls over the extended reals: the tables' entries, and the sum over eight
   interleaved remainders of which one counts. -/
module

public import Idealize.ShloMosaic.PureOps.Ideal
public import Idealize.ShloMosaic.Lib.Pointwise

@[expose] public section

noncomputable section

open Idealize.ShloMosaic

namespace FourierMath

/-- An index as a float. -/
def num (n : ℕ) : EReal := FloatOps.sitofp (F := Ideal) .f32 (BitVec.ofNat 32 n)

/-- The angle of frequency `a` at point `b`, of as many as the word `w` says. -/
def angle (w : BitVec 32) (a b : ℕ) : EReal :=
  Ideal.div (Ideal.ofBits .f32 0x40C90FDB#32 * (num a * num b)) (Ideal.ofBits .f32 w)

/-- The channel transform's real part, of 128 channels. -/
def chanRe (x : Fin 128 → EReal) (d : Fin 128) : EReal :=
  ∑ c, x c * Ideal.div (Ideal.cos (angle 0x43000000#32 c.val d.val)) (Ideal.ofBits .f32 0x413504F3#32)

/-- The channel transform's imaginary part. -/
def chanIm (x : Fin 128 → EReal) (d : Fin 128) : EReal :=
  ∑ c, x c * Ideal.div (-Ideal.sin (angle 0x43000000#32 c.val d.val)) (Ideal.ofBits .f32 0x413504F3#32)

/-- The position transform's cosines, of 64 positions, over 8. -/
def co (k n : Fin 64) : EReal := Ideal.div (Ideal.cos (angle 0x42800000#32 k.val n.val)) (Ideal.ofBits .f32 0x41000000#32)

/-- The position transform's sines, over 8. -/
def si (k n : Fin 64) : EReal := Ideal.div (Ideal.sin (angle 0x42800000#32 k.val n.val)) (Ideal.ofBits .f32 0x41000000#32)

/-- A sum over 512 indices of which only those of remainder `b` modulo 8 count, as a sum over 64. -/
theorem sum_lane (f : Fin 512 → EReal) (b : Fin 8) (h : ∀ x, x.val % 8 ≠ b.val → f x = 0) :
    ∑ x, f x = ∑ n : Fin 64, f ⟨8 * n.val + b.val, by omega⟩ := by
  have e : ∀ a : Fin 64, ∑ r : Fin 8, f ⟨8 * a.val + r.val, by omega⟩ = f ⟨8 * a.val + b.val, by omega⟩ := fun a =>
    Finset.sum_eq_single b (fun r _ hr => h _ fun he => hr (Fin.ext (by simp only [] at he; omega))) (fun hb => absurd (Finset.mem_univ b) hb)
  refine (Fin.sum_univ_tiles 64 8 rfl (fun x : Fin (64 * 8) => f x)).trans (Finset.sum_congr rfl fun a _ => ?_)
  refine Eq.trans (Finset.sum_congr rfl fun r _ => congrArg f (Fin.ext ?_)) (e a)
  simp; try omega

/-- The comparison of two remainders as a bit. -/
theorem same_bit (b e : Fin 8) :
    IntOp.cmpi CmpIPredicate.eq (IntOp.addi (BitVec.ofNat 32 b.val) 0#32) (BitVec.ofNat 32 e.val) = if b = e then 1#1 else 0#1 := by
  revert b e
  decide

/-- The identity over eight remainders, as it is made from a comparison. -/
theorem delta (b e : Fin 8) :
    FloatOps.uitofp (F := Ideal) FTy.f32 (IntOp.cmpi CmpIPredicate.eq (IntOp.addi (BitVec.ofNat 32 b.val) 0#32) (BitVec.ofNat 32 e.val))
      = if b = e then (1 : EReal) else 0 := by
  rw [same_bit]
  split_ifs
  · change (((1#1 : BitVec 1).toNat : ℝ) : EReal) = 1
    simp
  · change (((0#1 : BitVec 1).toNat : ℝ) : EReal) = 0
    simp

/-- A row of a table whose entries stand where a remainder is `b`, on a column of as many entries. -/
theorem lane_row (f Z : Fin 512 → EReal) (T : Fin 64 → EReal) (b : Fin 8)
    (h : ∀ i, f i = T ⟨i.val / 8, by omega⟩ * (if b = (⟨i.val % 8, by omega⟩ : Fin 8) then 1 else 0)) :
    ∑ i, f i * Z i = ∑ n : Fin 64, Z ⟨8 * n.val + b.val, by omega⟩ * T n := by
  rw [sum_lane (fun i => f i * Z i) b fun i hi => by
    show f i * Z i = 0
    rw [h, if_neg (fun e => hi (by rw [e])), mul_zero, zero_mul]]
  refine Finset.sum_congr rfl fun n _ => ?_
  rw [mul_comm, h, if_pos (Fin.ext (by simp only []; omega)), mul_one]
  exact congrArg (fun k => _ * T k) (Fin.ext (by simp only []; omega))

end FourierMath

end
-- ==== Proof.ChanBody.lean ====
/- What one grid point of the first Fourier call stores, from its blocks alone. -/
module

public import proofs.«01_k».proof.Proof.Gen.ChanIdeal.Value
public import proofs.«01_k».proof.Proof.FourierMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ChanIdeal.Body
open Cert.ChanIdeal Cert.ChanIdeal.Gen Cert.ChanIdeal.Value FourierMath

/-- One entry of the transformed rows: the position table's row on the channel transforms, the real parts and then the
    imaginary ones. -/
theorem pay3_at (x : Vec Ideal S1x64x1x8x512 .f32) (w : Vec Ideal S128x256 .bf16) (a : Vec Ideal S1024x1024 .bf16) (r : Fin 1024) (j : Fin 512) :
    k0_pay3 (F := Ideal) x w w w w a (ix2 r j)
      = (∑ i : Fin 512, a (ix2 r ⟨i.val, by omega⟩) * ∑ k : Fin 128, x (ix5 0 ⟨i.val / 8, by omega⟩ 0 ⟨i.val % 8, by omega⟩ ⟨128 * (j.val / 128) + k.val, by omega⟩) * w (ix2 k ⟨j.val % 128, by omega⟩) : EReal)
        + ∑ i : Fin 512, a (ix2 r ⟨512 + i.val, by omega⟩) * ∑ k : Fin 128, x (ix5 0 ⟨i.val / 8, by omega⟩ 0 ⟨i.val % 8, by omega⟩ ⟨128 * (j.val / 128) + k.val, by omega⟩) * w (ix2 k ⟨128 + j.val % 128, by omega⟩) := by
  pointwise [k0_pay3]
  refine congrArg₂ (· + ·) (Finset.sum_congr rfl fun i _ => congrArg₂ (· * ·) rfl ?_) (Finset.sum_congr rfl fun i _ => congrArg₂ (· * ·) rfl ?_) <;>
    split_ifs <;>
    refine Finset.sum_congr rfl fun k _ => congrArg₂ (· * ·) (congrArg x (congrArg (ix5 _ _ _ _) (Fin.ext ?_))) (congrArg w (congrArg (ix2 k) (Fin.ext ?_))) <;>
    simp only [] <;> omega

/-- The last rows, as they are stored. -/
theorem pay2_at (v : FVec Ideal S1024x512 .f32) (r j : Fin 512) : k0_pay2 v (ix3 0 r j) = v (ix2 ⟨512 + r.val, by omega⟩ j) := by
  pointwise [k0_pay2]

/-- The first rows, as they are stored. -/
theorem pay1_at (x : Vec Ideal S1x64x1x8x512 .f32) (w : Vec Ideal S128x256 .bf16) (a : Vec Ideal S1024x1024 .bf16) (r j : Fin 512) :
    k0_pay1 (k0_pay4 (F := Ideal) x w w w w a) (ix3 0 r j) = k0_pay3 (F := Ideal) x w w w w a (ix2 ⟨r.val, by omega⟩ j) := by
  unfold k0_pay4
  pointwise [k0_pay1]

/-- The stored block: the real rows in the first 512 columns, the imaginary rows in the last. -/
theorem out_at (x : Vec Ideal S1x64x1x8x512 .f32) (w : Vec Ideal S128x256 .bf16) (a : Vec Ideal S1024x1024 .bf16) (r : Fin 512) (j : Fin 1024) :
    out0_3 (F := Ideal) x w a (ix3 0 r j) = k0_pay3 (F := Ideal) x w w w w a (ix2 ⟨j.val / 512 * 512 + r.val, by omega⟩ ⟨j.val % 512, by omega⟩) := by
  unfold out0_3
  frame_out
  canon_tiles y h <;> idx_vars y <;> obtain rfl : y0 = 0 := Subsingleton.elim _ _ <;>
    simp only [Matrix.cons_val_zero, Matrix.cons_val_one, Matrix.cons_val] at h1 h2
  case piece0 =>
    refine (pay2_at _ y1 y2).trans (congrArg _ (congrArg₂ ix2 (Fin.ext ?_) (Fin.ext ?_))) <;> simp only [] <;> omega
  case piece1 =>
    refine (pay1_at _ _ _ y1 y2).trans (congrArg _ (congrArg₂ ix2 (Fin.ext ?_) (Fin.ext ?_))) <;> simp only [] <;> omega

end Cert.ChanIdeal.Body
end
-- ==== Proof.ChanTable.lean ====
/- The tables of the first Fourier call, entry by entry: the transform of a group's channels, and that of
   the positions of equal remainder for eight remainders at a time. -/
module

public import proofs.«01_k».proof.Proof.Gen.ChanIdeal.Value
public import proofs.«01_k».proof.Proof.FourierMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ChanIdeal.Table
open Cert.ChanIdeal Cert.ChanIdeal.Gen FourierMath

variable (m : (ℓ : Loc nD τ sig) → Buf (Elt Ideal) ℓ) (c : Dev nD)

/-- The angles of the channel transform. -/
def angle128 : FVec Ideal S128x128 .f32 :=
  Host.divf (mulf (broadcastInDim S128x128 ![] bcast_S_S128x128 (constant (F := Ideal) S_ .f32 0x40C90FDB#32))
    (mulf (broadcastInDim S128x128 ![0, 1] bcast_S128x1_S128x128_0_1 (broadcastInDim S128x1 ![0] bcast_S128_S128x1_0 (sitofp (F := Ideal) .f32 (iotaInDim S128 32 0))))
      (broadcastInDim S128x128 ![0, 1] bcast_S1x128_S128x128_0_1 (broadcastInDim S1x128 ![1] bcast_S128_S1x128_1 (sitofp (F := Ideal) .f32 (iotaInDim S128 32 0))))))
    (broadcastInDim S128x128 ![] bcast_S_S128x128 (constant (F := Ideal) S_ .f32 0x43000000#32))

/-- The channel table as the host makes it: cosines, then minus the sines, over the root of 128. -/
def channels : FVec Ideal S128x256 .bf16 :=
  truncf .bf16 (Host.divf (concatenate S128x256 1 [⟨S128x128, Host.cos angle128⟩, ⟨S128x128, Host.negf (Host.sin angle128)⟩] concatenates_S128x128_S128x128_S128x256_d1)
    (broadcastInDim S128x256 ![] bcast_S_S128x256 (constant (F := Ideal) S_ .f32 0x413504F3#32))) bitsLt_bf16_f32

/-- The channel window's array is the channel table. -/
theorem entry_channels : V m c main_v16 = channels := by rfl

/-- The cosine half of the channel table. -/
theorem channels_re (k d : Fin 128) : channels (ix2 k ⟨d.val, by omega⟩)
    = Ideal.div (Ideal.cos (angle 0x43000000#32 k.val d.val)) (Ideal.ofBits .f32 0x413504F3#32) := by
  pointwise [channels, angle128]
  rfl

/-- The sine half of the channel table. -/
theorem channels_im (k d : Fin 128) : channels (ix2 k ⟨128 + d.val, by omega⟩)
    = Ideal.div (-Ideal.sin (angle 0x43000000#32 k.val d.val)) (Ideal.ofBits .f32 0x413504F3#32) := by
  pointwise [channels, angle128]
  rfl

/-- The identity over eight remainders. -/
def eye : FVec Ideal S8x8 .f32 :=
  uitofp (F := Ideal) .f32 (cmpi .eq (addi (iotaInDim S8x8 32 0) (broadcastInDim S8x8 ![] bcast_S_S8x8 (constantI S_ 32 0#32))) (iotaInDim S8x8 32 1))

/-- The angles of the position transform. -/
def angle64 : FVec Ideal S64x64 .f32 :=
  Host.divf (mulf (broadcastInDim S64x64 ![] bcast_S_S64x64 (constant (F := Ideal) S_ .f32 0x40C90FDB#32))
    (mulf (broadcastInDim S64x64 ![0, 1] bcast_S64x1_S64x64_0_1 (broadcastInDim S64x1 ![0] bcast_S64_S64x1_0 (sitofp (F := Ideal) .f32 (iotaInDim S64 32 0))))
      (broadcastInDim S64x64 ![0, 1] bcast_S1x64_S64x64_0_1 (broadcastInDim S1x64 ![1] bcast_S64_S1x64_1 (sitofp (F := Ideal) .f32 (iotaInDim S64 32 0))))))
    (broadcastInDim S64x64 ![] bcast_S_S64x64 (constant (F := Ideal) S_ .f32 0x42800000#32))

/-- The cosines of the position transform over 8. -/
def cos64 : FVec Ideal S64x64 .f32 := Host.divf (Host.cos angle64) (broadcastInDim S64x64 ![] bcast_S_S64x64 (constant (F := Ideal) S_ .f32 0x41000000#32))
/-- The sines of the position transform over 8. -/
def sin64 : FVec Ideal S64x64 .f32 := Host.divf (Host.sin angle64) (broadcastInDim S64x64 ![] bcast_S_S64x64 (constant (F := Ideal) S_ .f32 0x41000000#32))

/-- A pair of tables side by side. -/
def pair (a b : FVec Ideal S64x64 .f32) : FVec Ideal S1x64x2x64 .f32 :=
  broadcastInDim S1x64x2x64 ![1, 2, 3] bcast_S64x2x64_S1x64x2x64_1_2_3 (concatenate S64x2x64 1 [⟨S64x1x64, broadcastInDim S64x1x64 ![0, 2] bcast_S64x64_S64x1x64_0_2 a⟩,
    ⟨S64x1x64, broadcastInDim S64x1x64 ![0, 2] bcast_S64x64_S64x1x64_0_2 b⟩] concatenates_S64x1x64_S64x1x64_S64x2x64_d1)

/-- The position table as the host makes it from the cosines, the sines and the identity. -/
def table (C S : FVec Ideal S64x64 .f32) (E : FVec Ideal S8x8 .f32) : FVec Ideal S1024x1024 .bf16 :=
  truncf .bf16 (shapeCast S1024x1024 (mulf (broadcastInDim S2x8x64x2x64x8 ![0, 1, 2, 3, 4, 5] bcast_S2x1x64x2x64x1_S2x8x64x2x64x8_0_1_2_3_4_5
      (broadcastInDim S2x1x64x2x64x1 ![0, 2, 3, 4] bcast_S2x64x2x64_S2x1x64x2x64x1_0_2_3_4
        (concatenate S2x64x2x64 0 [⟨S1x64x2x64, pair C S⟩, ⟨S1x64x2x64, pair (Host.negf S) C⟩] concatenates_S1x64x2x64_S1x64x2x64_S2x64x2x64_d0)))
    (broadcastInDim S2x8x64x2x64x8 ![0, 1, 2, 3, 4, 5] bcast_S1x8x1x1x1x8_S2x8x64x2x64x8_0_1_2_3_4_5
      (broadcastInDim S1x8x1x1x1x8 ![1, 5] bcast_S8x8_S1x8x1x1x1x8_1_5 E))) shapeCasts_S2x8x64x2x64x8_S1024x1024) bitsLt_bf16_f32

/-- The position table. -/
def positions : FVec Ideal S1024x1024 .bf16 := table cos64 sin64 eye

/-- The position window's array is the position table. -/
theorem entry_positions : V m c main_v55 = positions := by rfl

/-- An entry of the position table's cosines. -/
theorem cos64_at (k n : Fin 64) : cos64 (ix2 k n) = co k n := by
  pointwise [cos64, angle64]
  rfl

/-- An entry of the position table's sines. -/
theorem sin64_at (k n : Fin 64) : sin64 (ix2 k n) = si k n := by
  pointwise [sin64, angle64]
  rfl

/-- The identity over eight remainders, entry by entry. -/
theorem eye_at (b e : Fin 8) : eye (ix2 b e) = if b = e then (1 : EReal) else 0 := by
  pointwise [eye]
  exact delta b e

/-- The position table, entry by entry: the real rows and then the imaginary ones, remainder by remainder and frequency
    by frequency; the real columns and then the imaginary ones, position by position and remainder by remainder. -/
theorem table_at (C S : FVec Ideal S64x64 .f32) (E : FVec Ideal S8x8 .f32) (r x : Fin 1024) : table C S E (ix2 r x)
    = ((if r.val / 512 < 1 then if x.val / 512 < 1 then C (ix2 ⟨r.val % 64, by omega⟩ ⟨x.val / 8 % 64, by omega⟩) else S (ix2 ⟨r.val % 64, by omega⟩ ⟨x.val / 8 % 64, by omega⟩)
        else if x.val / 512 < 1 then -S (ix2 ⟨r.val % 64, by omega⟩ ⟨x.val / 8 % 64, by omega⟩) else C (ix2 ⟨r.val % 64, by omega⟩ ⟨x.val / 8 % 64, by omega⟩))
      * E (ix2 ⟨r.val / 64 % 8, by omega⟩ ⟨x.val % 8, by omega⟩) : EReal) := by
  pointwise [table, pair]
  refine congrArg₂ (· * ·) ?_ rfl
  split_ifs <;> rfl

/-- The position table: its cosines and sines stand where the two remainders are the same. -/
theorem positions_at (r x : Fin 1024) : positions (ix2 r x)
    = ((if r.val / 512 < 1 then if x.val / 512 < 1 then co ⟨r.val % 64, by omega⟩ ⟨x.val / 8 % 64, by omega⟩ else si ⟨r.val % 64, by omega⟩ ⟨x.val / 8 % 64, by omega⟩
        else if x.val / 512 < 1 then -si ⟨r.val % 64, by omega⟩ ⟨x.val / 8 % 64, by omega⟩ else co ⟨r.val % 64, by omega⟩ ⟨x.val / 8 % 64, by omega⟩)
      * (if (⟨r.val / 64 % 8, by omega⟩ : Fin 8) = ⟨x.val % 8, by omega⟩ then 1 else 0) : EReal) := by
  refine (table_at cos64 sin64 eye r x).trans (congrArg₂ (· * ·) ?_ (eye_at _ _))
  simp only [cos64_at, sin64_at]

/-- The upper left quarter: the real rows on the real parts. -/
theorem upper_left (r i : Fin 512) : positions (ix2 ⟨r.val, by omega⟩ ⟨i.val, by omega⟩)
    = (co ⟨r.val % 64, by omega⟩ ⟨i.val / 8, by omega⟩ * (if (⟨r.val / 64, by omega⟩ : Fin 8) = ⟨i.val % 8, by omega⟩ then 1 else 0) : EReal) := by
  rw [positions_at, if_pos (by simp only []; omega), if_pos (by simp only []; omega)]
  refine congrArg₂ (· * ·) ((congrArg₂ co (Fin.ext ?_) (Fin.ext ?_))) (congrArg₂ (fun b e : Fin 8 => if b = e then (1 : EReal) else 0) (Fin.ext ?_) (Fin.ext ?_)) <;>
    simp only [] <;> omega

/-- The upper right quarter: the real rows on the imaginary parts. -/
theorem upper_right (r i : Fin 512) : positions (ix2 ⟨r.val, by omega⟩ ⟨512 + i.val, by omega⟩)
    = (si ⟨r.val % 64, by omega⟩ ⟨i.val / 8, by omega⟩ * (if (⟨r.val / 64, by omega⟩ : Fin 8) = ⟨i.val % 8, by omega⟩ then 1 else 0) : EReal) := by
  rw [positions_at, if_pos (by simp only []; omega), if_neg (by simp only []; omega)]
  refine congrArg₂ (· * ·) ((congrArg₂ si (Fin.ext ?_) (Fin.ext ?_))) (congrArg₂ (fun b e : Fin 8 => if b = e then (1 : EReal) else 0) (Fin.ext ?_) (Fin.ext ?_)) <;>
    simp only [] <;> omega

/-- The lower left quarter: the imaginary rows on the real parts. -/
theorem lower_left (r i : Fin 512) : positions (ix2 ⟨512 + r.val, by omega⟩ ⟨i.val, by omega⟩)
    = (-si ⟨r.val % 64, by omega⟩ ⟨i.val / 8, by omega⟩ * (if (⟨r.val / 64, by omega⟩ : Fin 8) = ⟨i.val % 8, by omega⟩ then 1 else 0) : EReal) := by
  rw [positions_at, if_neg (by simp only []; omega), if_pos (by simp only []; omega)]
  refine congrArg₂ (· * ·) (congrArg Neg.neg (congrArg₂ si (Fin.ext ?_) (Fin.ext ?_))) (congrArg₂ (fun b e : Fin 8 => if b = e then (1 : EReal) else 0) (Fin.ext ?_) (Fin.ext ?_)) <;>
    simp only [] <;> omega

/-- The lower right quarter: the imaginary rows on the imaginary parts. -/
theorem lower_right (r i : Fin 512) : positions (ix2 ⟨512 + r.val, by omega⟩ ⟨512 + i.val, by omega⟩)
    = (co ⟨r.val % 64, by omega⟩ ⟨i.val / 8, by omega⟩ * (if (⟨r.val / 64, by omega⟩ : Fin 8) = ⟨i.val % 8, by omega⟩ then 1 else 0) : EReal) := by
  rw [positions_at, if_neg (by simp only []; omega), if_neg (by simp only []; omega)]
  refine congrArg₂ (· * ·) ((congrArg₂ co (Fin.ext ?_) (Fin.ext ?_))) (congrArg₂ (fun b e : Fin 8 => if b = e then (1 : EReal) else 0) (Fin.ext ?_) (Fin.ext ?_)) <;>
    simp only [] <;> omega

end Cert.ChanIdeal.Table
end
-- ==== Proof.ChanStored.lean ====
/- What one grid point of the first Fourier call stores, from the channels it reads. -/
module

public import proofs.«01_k».proof.Proof.ChanBody
public import proofs.«01_k».proof.Proof.ChanTable

@[expose] public section

set_option maxRecDepth 16384

noncomputable section

open Idealize.ShloMosaic Idealize.ShloMosaic.TcCoe Idealize.SL.Sem

namespace Cert.ChanIdeal.Stored
open Cert.ChanIdeal Cert.ChanIdeal.Gen Cert.ChanIdeal.Value FourierMath Table Body

/-- Channel `k` of group `g`. -/
def chan (g : Fin 4) (k : Fin 128) : Fin 512 := ⟨128 * g.val + k.val, by omega⟩

variable (x : Vec Ideal S1x64x1x8x512 .f32) (w : Vec Ideal S128x256 .bf16) (a : Vec Ideal S1024x1024 .bf16)
variable (G : Fin 64 → Fin 8 → Fin 4 → Fin 128 → EReal)
variable (hx : ∀ q e g k, x (ix5 0 q 0 e (chan g k)) = G q e g k)
variable (hw : ∀ k l, w (ix2 k l) = channels (ix2 k l)) (ha : ∀ k l, a (ix2 k l) = positions (ix2 k l))

include hx hw in
/-- The real part over the channels. -/
theorem re_block (q : Fin 64) (e : Fin 8) (g : Fin 4) (d : Fin 128) :
    (∑ k : Fin 128, x (ix5 0 q 0 e ⟨128 * g.val + k.val, by omega⟩) * w (ix2 k ⟨d.val, by omega⟩) : EReal) = chanRe (G q e g) d :=
  Finset.sum_congr rfl fun k _ => congrArg₂ (· * ·) (hx q e g k) ((hw k _).trans (channels_re k d))

include hx hw in
/-- The imaginary part over the channels. -/
theorem im_block (q : Fin 64) (e : Fin 8) (g : Fin 4) (d : Fin 128) :
    (∑ k : Fin 128, x (ix5 0 q 0 e ⟨128 * g.val + k.val, by omega⟩) * w (ix2 k ⟨128 + d.val, by omega⟩) : EReal) = chanIm (G q e g) d :=
  Finset.sum_congr rfl fun k _ => congrArg₂ (· * ·) (hx q e g k) ((hw k _).trans (channels_im k d))

/-- A row of a quarter of the position table on the transforms `Z` is the sum over the positions of the one remainder
    that the row is of. -/
theorem over_positions (f : Fin 512 → EReal) (T : Fin 64 → Fin 64 → EReal) (Z : Fin 64 → Fin 8 → EReal) (r : Fin 512)
    (h : ∀ i, f i = T ⟨r.val % 64, by omega⟩ ⟨i.val / 8, by omega⟩ * (if (⟨r.val / 64, by omega⟩ : Fin 8) = ⟨i.val % 8, by omega⟩ then 1 else 0)) :
    ∑ i : Fin 512, f i * Z ⟨i.val / 8, by omega⟩ ⟨i.val % 8, by omega⟩
      = ∑ p, Z p ⟨r.val / 64, by omega⟩ * T ⟨r.val % 64, by omega⟩ p := by
  rw [lane_row f (fun i => Z ⟨i.val / 8, by omega⟩ ⟨i.val % 8, by omega⟩) (T ⟨r.val % 64, by omega⟩) ⟨r.val / 64, by omega⟩ h]
  refine Finset.sum_congr rfl fun n _ => congrArg₂ (· * ·) (congrArg₂ Z (Fin.ext ?_) (Fin.ext ?_)) rfl <;>
    simp only [] <;> omega

include hx hw in
/-- A row of the table on the channels' transforms, its two halves given. -/
theorem row_at (s : Fin 1024) (r j : Fin 512) (T U : Fin 64 → Fin 64 → EReal)
    (hT : ∀ i : Fin 512, a (ix2 s ⟨i.val, by omega⟩) = (T ⟨r.val % 64, by omega⟩ ⟨i.val / 8, by omega⟩ * (if (⟨r.val / 64, by omega⟩ : Fin 8) = ⟨i.val % 8, by omega⟩ then 1 else 0) : EReal))
    (hU : ∀ i : Fin 512, a (ix2 s ⟨512 + i.val, by omega⟩) = (U ⟨r.val % 64, by omega⟩ ⟨i.val / 8, by omega⟩ * (if (⟨r.val / 64, by omega⟩ : Fin 8) = ⟨i.val % 8, by omega⟩ then 1 else 0) : EReal)) :
    k0_pay3 (F := Ideal) x w w w w a (ix2 s j)
      = (∑ p, chanRe (G p ⟨r.val / 64, by omega⟩ ⟨j.val / 128, by omega⟩) ⟨j.val % 128, by omega⟩ * T ⟨r.val % 64, by omega⟩ p
        + ∑ p, chanIm (G p ⟨r.val / 64, by omega⟩ ⟨j.val / 128, by omega⟩) ⟨j.val % 128, by omega⟩ * U ⟨r.val % 64, by omega⟩ p : EReal) := by
  rw [pay3_at]
  exact congrArg₂ (· + ·)
    (Eq.trans (Finset.sum_congr rfl fun i _ => congrArg₂ (· * ·) rfl (re_block x w G hx hw ⟨i.val / 8, by omega⟩ ⟨i.val % 8, by omega⟩ ⟨j.val / 128, by omega⟩ ⟨j.val % 128, by omega⟩))
      (over_positions _ T (fun p e => chanRe (G p e ⟨j.val / 128, by omega⟩) ⟨j.val % 128, by omega⟩) r hT))
    (Eq.trans (Finset.sum_congr rfl fun i _ => congrArg₂ (· * ·) rfl (im_block x w G hx hw ⟨i.val / 8, by omega⟩ ⟨i.val % 8, by omega⟩ ⟨j.val / 128, by omega⟩ ⟨j.val % 128, by omega⟩))
      (over_positions _ U (fun p e => chanIm (G p e ⟨j.val / 128, by omega⟩) ⟨j.val % 128, by omega⟩) r hU))

include hx hw ha in
/-- The stored real results. -/
theorem stored_re (r j : Fin 512) : out0_3 (F := Ideal) x w a (ix3 0 r ⟨j.val, by omega⟩)
      = (∑ p, chanRe (G p ⟨r.val / 64, by omega⟩ ⟨j.val / 128, by omega⟩) ⟨j.val % 128, by omega⟩ * co ⟨r.val % 64, by omega⟩ p
        + ∑ p, chanIm (G p ⟨r.val / 64, by omega⟩ ⟨j.val / 128, by omega⟩) ⟨j.val % 128, by omega⟩ * si ⟨r.val % 64, by omega⟩ p : EReal) := by
  refine ((out_at x w a r _).trans (congrArg _ (congrArg₂ ix2 (Fin.ext ?_) (Fin.ext ?_)))).trans
    (row_at x w a G hx hw ⟨r.val, by omega⟩ r j co si (fun i => (ha _ _).trans (upper_left r i)) (fun i => (ha _ _).trans (upper_right r i))) <;>
    simp only [] <;> omega

include hx hw ha in
/-- The stored imaginary results. -/
theorem stored_im (r j : Fin 512) : out0_3 (F := Ideal) x w a (ix3 0 r ⟨512 + j.val, by omega⟩)
      = (∑ p, chanRe (G p ⟨r.val / 64, by omega⟩ ⟨j.val / 128, by omega⟩) ⟨j.val % 128, by omega⟩ * -si ⟨r.val % 64, by omega⟩ p
        + ∑ p, chanIm (G p ⟨r.val / 64, by omega⟩ ⟨j.val / 128, by omega⟩) ⟨j.val % 128, by omega⟩ * co ⟨r.val % 64, by omega⟩ p : EReal) := by
  refine ((out_at x w a r _).trans (congrArg _ (congrArg₂ ix2 (Fin.ext ?_) (Fin.ext ?_)))).trans
    (row_at x w a G hx hw ⟨512 + r.val, by omega⟩ r j (fun k p => -si k p) co (fun i => (ha _ _).trans (lower_left r i)) (fun i => (ha _ _).trans (lower_right r i))) <;>
    simp only [] <;> omega

end Cert.ChanIdeal.Stored
end
-- ==== Proof.ChanRefRow.lean ====
/- The reference of the first Fourier call, entry by entry. -/
module

public import proofs.«01_k».proof.Proof.Gen.ChanRefIdeal.Read
public import proofs.«01_k».proof.Proof.FourierMath

@[expose] public section

set_option maxRecDepth 16384

noncomputable section

open Idealize.ShloMosaic Idealize.ShloMosaic.TcCoe Idealize.SL.Sem

namespace Cert.ChanRefIdeal.Row
open Cert.ChanRefIdeal Cert.ChanRefIdeal.Gen Cert.ChanRefIdeal.Read FourierMath

variable (u : FVec Ideal S16x4096x512 .f32)

/-- The 128 channels of group `g` at position `64 p + m`. -/
def group (n : Fin 16) (p m : Fin 64) (g : Fin 4) (c : Fin 128) : EReal :=
  u (ix3 n ⟨64 * p.val + m.val, by omega⟩ ⟨128 * g.val + c.val, by omega⟩)

/-- The real part over the channels. -/
theorem re_at (n : Fin 16) (p m : Fin 64) (g : Fin 4) (d : Fin 128) :
    val_main_v14 (F := Ideal) u (ix5 n p m g d) = chanRe (group u n p m g) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold chanRe
  refine Finset.sum_congr rfl fun c _ => ?_
  refine congrArg₂ (· * ·) (congrArg u (congrArg₂ (ix3 n) (Fin.ext ?_) (Fin.ext ?_))) rfl <;> simp only [] <;> omega

/-- The imaginary part over the channels. -/
theorem im_at (n : Fin 16) (p m : Fin 64) (g : Fin 4) (d : Fin 128) :
    val_main_v19 (F := Ideal) u (ix5 n p m g d) = chanIm (group u n p m g) d := by
  pointwise [val_main_v19, val_main_v18, val_main_v17, val_main_v16, val_main_v15, val_main_v10, val_main_v9, val_main_v8, val_main_v7, val_main_v6, val_main_v5, val_main_v4, val_main_v3, val_main_v2, val_main_v1, val_main_v0, val_main_cst, val_main_cst_0, val_main_cst_2]
  unfold chanIm
  refine Finset.sum_congr rfl fun c _ => ?_
  refine congrArg₂ (· * ·) (congrArg u (congrArg₂ (ix3 n) (Fin.ext ?_) (Fin.ext ?_))) rfl <;> simp only [] <;> omega

/-- The cosines over the positions. -/
theorem co_at (k p : Fin 64) : val_main_v32 (F := Ideal) (ix2 k p) = co k p := by
  pointwise [val_main_v32, val_main_v31, val_main_v30, val_main_v29, val_main_v28, val_main_v27, val_main_v26, val_main_v25, val_main_v24, val_main_v23, val_main_v22, val_main_v21, val_main_v20, val_main_cst_3, val_main_cst_4, val_main_cst_5]
  rfl

/-- The sines over the positions. -/
theorem si_at (k p : Fin 64) : val_main_v35 (F := Ideal) (ix2 k p) = si k p := by
  pointwise [val_main_v35, val_main_v34, val_main_v33, val_main_v29, val_main_v28, val_main_v27, val_main_v26, val_main_v25, val_main_v24, val_main_v23, val_main_v22, val_main_v21, val_main_v20, val_main_cst_3, val_main_cst_4, val_main_cst_6]
  rfl

/-- The real results. -/
theorem first_half (n : Fin 16) (s : Fin 4096) (j : Fin 512) :
    val_main_v49 (F := Ideal) u (ix3 n s ⟨j.val, by omega⟩)
      = ∑ p, chanRe (group u n p ⟨s.val / 64, by omega⟩ ⟨j.val / 128, by omega⟩) ⟨j.val % 128, by omega⟩ * co ⟨s.val % 64, by omega⟩ p
        + ∑ p, chanIm (group u n p ⟨s.val / 64, by omega⟩ ⟨j.val / 128, by omega⟩) ⟨j.val % 128, by omega⟩ * si ⟨s.val % 64, by omega⟩ p := by
  pointwise [val_main_v49, val_main_v48, val_main_v47, val_main_v46, val_main_v45, val_main_v44, val_main_v43, val_main_v42, val_main_v41, val_main_v40, val_main_v39, val_main_v38, val_main_v37, val_main_v36]
  refine congrArg₂ (· + ·) (Finset.sum_congr rfl fun p _ => congrArg₂ (· * ·) (re_at ..) (co_at ..)) (Finset.sum_congr rfl fun p _ => congrArg₂ (· * ·) (im_at ..) (si_at ..))

/-- The imaginary results. -/
theorem second_half (n : Fin 16) (s : Fin 4096) (j : Fin 512) :
    val_main_v49 (F := Ideal) u (ix3 n s ⟨512 + j.val, by omega⟩)
      = ∑ p, chanRe (group u n p ⟨s.val / 64, by omega⟩ ⟨j.val / 128, by omega⟩) ⟨j.val % 128, by omega⟩ * -si ⟨s.val % 64, by omega⟩ p
        + ∑ p, chanIm (group u n p ⟨s.val / 64, by omega⟩ ⟨j.val / 128, by omega⟩) ⟨j.val % 128, by omega⟩ * co ⟨s.val % 64, by omega⟩ p := by
  pointwise [val_main_v49, val_main_v48, val_main_v47, val_main_v46, val_main_v45, val_main_v44, val_main_v43, val_main_v42, val_main_v41, val_main_v40, val_main_v39, val_main_v38, val_main_v37, val_main_v36]
  refine congrArg₂ (· + ·) (Finset.sum_congr rfl fun p _ => congrArg₂ (· * ·) (re_at ..) (congrArg Neg.neg (si_at ..))) (Finset.sum_congr rfl fun p _ => congrArg₂ (· * ·) (im_at ..) (co_at ..))

end Cert.ChanRefIdeal.Row
end
-- ==== Proof.ChanVal.lean ====
/- The value of the first Fourier call: the transforms over the channels and over the positions of equal remainder. -/
module

public import proofs.«01_k».proof.Proof.ChanStored
public import proofs.«01_k».proof.Proof.ChanRefRow

@[expose] public section

set_option maxRecDepth 16384

noncomputable section

open Idealize.ShloMosaic Idealize.ShloMosaic.TcCoe Idealize.SL.Sem
open Idealize.ShloMosaic.Pipeline (Dat)

namespace Cert.ChanIdeal.Bridge
open Cert.ChanIdeal Cert.ChanIdeal.Gen Cert.ChanIdeal.Value FourierMath Table Cert.ChanRefIdeal.Row

variable (m : (ℓ : Loc nD τ sig) → Buf (Elt Ideal) ℓ) (c : Dev nD) (t : Fin cfg0.N)

/-- The block every window is at, at every grid point: of sequence `t / 8` the remainders `8 (t % 8)` to
    `8 (t % 8) + 7`; the tables whole. -/
theorem where_at : ∀ t : Fin cfg0.N, win0_0.index t = ![t.val / 8, 0, t.val % 8, 0, 0]
    ∧ win0_1.index t = ![0, 0]
    ∧ win0_2.index t = ![0, 0]
    ∧ win0_3.index t = ![t.val / 8, t.val % 8, 0] :=
  (by decide +kernel : ∀ t : Fin grid0.N, _)

/-- The sequence of a grid point. -/
def batch (t : Fin cfg0.N) : Fin 16 := ⟨t.val / 8, by have := t.isLt; change t.val < 128 at this; omega⟩

/-- The row of the result that row `r` of a grid point is. -/
def row (t : Fin cfg0.N) (r : Fin 512) : Fin 4096 := ⟨t.val % 8 * 512 + r.val, by omega⟩

/-- The remainder that remainder `e` of a grid point is. -/
def rest (t : Fin cfg0.N) (e : Fin 8) : Fin 64 := ⟨t.val % 8 * 8 + e.val, by omega⟩

/-- The channels as the launch finds them. -/
abbrev arg : FVec Ideal S16x4096x512 .f32 := m ((c : Thread nD τ).loc main_arg0)

/-- The input as the call reads it: position by position and remainder by remainder. -/
theorem entry_input : V m c main_v56 = shapeCast S16x64x8x8x512 (arg m c) shapeCasts_S16x4096x512_S16x64x8x8x512 := by rfl

/-- The input's block. -/
theorem x_at (q : Fin 64) (e : Fin 8) (g : Fin 4) (k : Fin 128) :
    iblk m c 0 t (ix5 0 q 0 e ⟨128 * g.val + k.val, by omega⟩) = group (arg m c) (batch t) q (rest t e) g k := by
  have h : iblk m c 0 t (ix5 0 q 0 e ⟨128 * g.val + k.val, by omega⟩) = V m c main_v56 (ix5 (batch t) q ⟨t.val % 8, by omega⟩ e ⟨128 * g.val + k.val, by omega⟩) := by
    blk_simp [iblk]
    refine congrArg (V m c main_v56) ?_
    blk_ext [where_at t] <;> simp [batch]
  rw [h, entry_input]
  unfold group
  pointwise []
  refine congrArg (arg m c) (congrArg₂ (ix3 _) (Fin.ext ?_) (Fin.ext ?_)) <;> simp only [rest] <;> omega

/-- The channel table's block. -/
theorem w_at (k : Fin 128) (l : Fin 256) : iblk m c 1 t (ix2 k l) = channels (ix2 k l) := by
  refine Eq.trans ?_ (congrFun (entry_channels m c) (ix2 k l))
  blk_simp [iblk]
  refine congrArg (V m c main_v16) ?_
  blk_ext [where_at t]

/-- The position table's block. -/
theorem p_at (k l : Fin 1024) : iblk m c 2 t (ix2 k l) = positions (ix2 k l) := by
  refine Eq.trans ?_ (congrFun (entry_positions m c) (ix2 k l))
  blk_simp [iblk]
  refine congrArg (V m c main_v55) ?_
  blk_ext [where_at t]

/-- What a grid point stores is the reference's value there: the real results. -/
theorem point_re (r j : Fin 512) :
    out0_3 (F := Ideal) (iblk m c 0 t) (iblk m c 1 t) (iblk m c 2 t) (ix3 0 r ⟨j.val, by omega⟩)
      = Cert.ChanRefIdeal.Read.val_main_v49 (F := Ideal) (arg m c) (ix3 (batch t) (row t r) ⟨j.val, by omega⟩) := by
  refine (Stored.stored_re _ _ _ (fun q e g k => group (arg m c) (batch t) q (rest t e) g k) (x_at m c t) (w_at m c t) (p_at m c t) r j).trans (Eq.trans ?_ (first_half (arg m c) (batch t) (row t r) j).symm)
  have e : rest t ⟨r.val / 64, by omega⟩ = ⟨(row t r).val / 64, by omega⟩ := Fin.ext (by simp only [row, rest]; omega)
  have f : (⟨r.val % 64, by omega⟩ : Fin 64) = ⟨(row t r).val % 64, by omega⟩ := Fin.ext (by simp only [row]; omega)
  rw [← e, ← f]

/-- What a grid point stores is the reference's value there: the imaginary results. -/
theorem point_im (r j : Fin 512) :
    out0_3 (F := Ideal) (iblk m c 0 t) (iblk m c 1 t) (iblk m c 2 t) (ix3 0 r ⟨512 + j.val, by omega⟩)
      = Cert.ChanRefIdeal.Read.val_main_v49 (F := Ideal) (arg m c) (ix3 (batch t) (row t r) ⟨512 + j.val, by omega⟩) := by
  refine (Stored.stored_im _ _ _ (fun q e g k => group (arg m c) (batch t) q (rest t e) g k) (x_at m c t) (w_at m c t) (p_at m c t) r j).trans (Eq.trans ?_ (second_half (arg m c) (batch t) (row t r) j).symm)
  have e : rest t ⟨r.val / 64, by omega⟩ = ⟨(row t r).val / 64, by omega⟩ := Fin.ext (by simp only [row, rest]; omega)
  have f : (⟨r.val % 64, by omega⟩ : Fin 64) = ⟨(row t r).val % 64, by omega⟩ := Fin.ext (by simp only [row]; omega)
  rw [← e, ← f]

/-- What a grid point stores is the reference's value there. -/
theorem point (r : Fin 512) (j : Fin 1024) :
    out0_3 (F := Ideal) (iblk m c 0 t) (iblk m c 1 t) (iblk m c 2 t) (ix3 0 r j)
      = Cert.ChanRefIdeal.Read.val_main_v49 (F := Ideal) (arg m c) (ix3 (batch t) (row t r) j) := by
  by_cases h : j.val < 512
  · exact point_re m c t r ⟨j.val, h⟩
  · have e : j = ⟨512 + (j.val - 512), by omega⟩ := Fin.ext (by simp only []; omega)
    rw [e]
    exact point_im m c t r ⟨j.val - 512, by omega⟩

/-- The result array after the run is the reference's. -/
theorem final : (dats m 0 c).arrAt 3 (cfgs 0).N = Cert.ChanRefIdeal.Read.val_main_v49 (F := Ideal) (arg m c) := by
  refine (dats m 0 c).arrAt_eq_of_covers 3 _ (by decide +kernel) fun t hf y => ?_
  blk_simp; rw [after0_3]
  idx_vars y
  obtain rfl : y0 = 0 := Subsingleton.elim _ _
  refine (point m c t y1 y2).trans (congrArg _ ?_)
  blk_ext [where_at t] <;> simp [batch, row]

end Cert.ChanIdeal.Bridge
end
-- ==== Proof.ChanClaim.lean ====
/- The algebraic claim of the Chan program: after its run each result is the reference's. -/
module

public import proofs.«01_k».proof.Defs
public import proofs.«01_k».proof.Proof.ChanVal
public import proofs.«01_k».proof.Proof.Gen.ChanRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.ChanIdeal.Bridge.algebraic : Cert.algebraic_ChanIdeal_ChanRefIdeal := by
  pair_intro
  · run_from Cert.ChanIdeal.Gen.run_main m g
  · run_from Cert.ChanRefIdeal.Value.run m' g'
    have h0 := hagree c
    refine (Cert.ChanRefIdeal.Read.val_main_v49_eq m' c).trans ?_
    rw [h0]
    exact (Cert.ChanIdeal.Bridge.final m c).symm

/-- The reference runs, keeps its arguments and has no semaphore. -/
theorem Cert.ChanRefIdeal.Row.frame : Cert.quiescent_ChanRefIdeal := fun m ρ _ =>
  (θ_run Cert.ChanRefIdeal.defs _ _).mono
    (fun r h => ⟨fun c => (h c).2, sem_eq_zero_of_no_sems (by decide) r.2⟩)
    (Cert.ChanRefIdeal.Value.run (F := Ideal) m ρ)

end
-- ==== Proof.PosnBody.lean ====
/- What one grid point of the second Fourier call stores, from its blocks alone. -/
module

public import proofs.«01_k».proof.Proof.Gen.PosnIdeal.Value
public import proofs.«01_k».proof.Proof.FourierMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PosnIdeal.Body
open Cert.PosnIdeal Cert.PosnIdeal.Gen Cert.PosnIdeal.Value FourierMath

/-- One stored entry: a row of the position table on the cosine and sine halves of the rows, by the group's weights. -/
theorem pay_at (x : Vec Ideal S1x64x1x8x1024 .f32) (a : Vec Ideal S1x512x1024 .bf16) (w : Vec Ideal S4x128x128 .bf16) (w0 w1 w2 w3 : Vec Ideal S1x128x128 .bf16)
    (h0 : ∀ d l, w0 (ix3 0 d l) = w (ix3 ⟨0, by omega⟩ d l)) (h1 : ∀ d l, w1 (ix3 0 d l) = w (ix3 ⟨1, by omega⟩ d l))
    (h2 : ∀ d l, w2 (ix3 0 d l) = w (ix3 ⟨2, by omega⟩ d l)) (h3 : ∀ d l, w3 (ix3 0 d l) = w (ix3 ⟨3, by omega⟩ d l))
    (k : Fin 64) (b : Fin 8) (j : Fin 512) :
    k0_pay1 (k0_pay2 (F := Ideal) x a w0 w1 w2 w3) (ix5 0 k 0 b j)
      = ∑ d : Fin 128, ((∑ l : Fin 512, a (ix3 0 ⟨k.val * 8 + b.val, by omega⟩ ⟨l.val, by omega⟩) * x (ix5 0 ⟨l.val / 8, by omega⟩ 0 ⟨l.val % 8, by omega⟩ ⟨128 * (j.val / 128) + d.val, by omega⟩)
          + ∑ l : Fin 512, a (ix3 0 ⟨k.val * 8 + b.val, by omega⟩ ⟨512 + l.val, by omega⟩) * x (ix5 0 ⟨l.val / 8, by omega⟩ 0 ⟨l.val % 8, by omega⟩ ⟨512 + (128 * (j.val / 128) + d.val), by omega⟩))
        * w (ix3 ⟨j.val / 128, by omega⟩ d ⟨j.val % 128, by omega⟩) : EReal) := by
  pointwise [k0_pay1, k0_pay2]
  simp only [h0, h1, h2, h3]
  split_ifs <;>
    refine Finset.sum_congr rfl fun d _ => congrArg₂ (· * ·)
      (congrArg₂ (· + ·) (Finset.sum_congr rfl fun l _ => congrArg₂ (· * ·) rfl (congrArg x (congrArg (ix5 _ _ _ _) (Fin.ext ?_))))
        (Finset.sum_congr rfl fun l _ => congrArg₂ (· * ·) rfl (congrArg x (congrArg (ix5 _ _ _ _) (Fin.ext ?_)))))
      (congrArg₂ (fun g l => w (ix3 g d l)) (Fin.ext ?_) (Fin.ext ?_)) <;>
    simp only [] <;> omega

/-- The stored block, entry by entry. -/
theorem out_at (x : Vec Ideal S1x64x1x8x1024 .f32) (a : Vec Ideal S1x512x1024 .bf16) (w : Vec Ideal S4x128x128 .bf16) (k : Fin 64) (b : Fin 8) (j : Fin 512) :
    out0_3 (F := Ideal) x a w (ix5 0 k 0 b j)
      = ∑ d : Fin 128, ((∑ l : Fin 512, a (ix3 0 ⟨k.val * 8 + b.val, by omega⟩ ⟨l.val, by omega⟩) * x (ix5 0 ⟨l.val / 8, by omega⟩ 0 ⟨l.val % 8, by omega⟩ ⟨128 * (j.val / 128) + d.val, by omega⟩)
          + ∑ l : Fin 512, a (ix3 0 ⟨k.val * 8 + b.val, by omega⟩ ⟨512 + l.val, by omega⟩) * x (ix5 0 ⟨l.val / 8, by omega⟩ 0 ⟨l.val % 8, by omega⟩ ⟨512 + (128 * (j.val / 128) + d.val), by omega⟩))
        * w (ix3 ⟨j.val / 128, by omega⟩ d ⟨j.val % 128, by omega⟩) : EReal) := by
  unfold out0_3
  frame_out
  refine pay_at x a w _ _ _ _ ?_ ?_ ?_ ?_ k b j <;> intro d l <;> pointwise [] <;>
    refine congrArg w (congrArg₂ (fun g e => ix3 g e l) (Fin.ext ?_) (Fin.ext ?_)) <;> simp

end Cert.PosnIdeal.Body
end
-- ==== Proof.PosnTable.lean ====
/- The table of the second Fourier call, entry by entry. -/
module

public import proofs.«01_k».proof.Proof.Gen.PosnIdeal.Value
public import proofs.«01_k».proof.Proof.FourierMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PosnIdeal.Table
open Cert.PosnIdeal Cert.PosnIdeal.Gen FourierMath

variable (m : (ℓ : Loc nD τ sig) → Buf (Elt Ideal) ℓ) (c : Dev nD)

/-- The identity over eight remainders. -/
def eye : FVec Ideal S8x8 .f32 :=
  uitofp (F := Ideal) .f32 (cmpi .eq (addi (iotaInDim S8x8 32 0) (broadcastInDim S8x8 ![] bcast_S_S8x8 (constantI S_ 32 0#32))) (iotaInDim S8x8 32 1))

/-- The identity over eight remainders, entry by entry. -/
theorem eye_at (b e : Fin 8) : eye (ix2 b e) = if b = e then (1 : EReal) else 0 := by
  pointwise [eye]
  exact delta b e

/-- The angles of 64 frequencies at 64 points, of as many as the word says. -/
def angles (d : BitVec 32) : FVec Ideal S64x64 .f32 :=
  Host.divf (mulf (broadcastInDim S64x64 ![] bcast_S_S64x64 (constant (F := Ideal) S_ .f32 0x40C90FDB#32))
    (mulf (broadcastInDim S64x64 ![0, 1] bcast_S64x1_S64x64_0_1 (broadcastInDim S64x1 ![0] bcast_S64_S64x1_0 (sitofp (F := Ideal) .f32 (iotaInDim S64 32 0))))
      (broadcastInDim S64x64 ![0, 1] bcast_S1x64_S64x64_0_1 (broadcastInDim S1x64 ![1] bcast_S64_S1x64_1 (sitofp (F := Ideal) .f32 (iotaInDim S64 32 0))))))
    (broadcastInDim S64x64 ![] bcast_S_S64x64 (constant (F := Ideal) S_ .f32 d))

/-- The cosines of 64 positions over 8. -/
def cos64 : FVec Ideal S64x64 .f32 := Host.divf (Host.cos (angles 0x42800000#32)) (broadcastInDim S64x64 ![] bcast_S_S64x64 (constant (F := Ideal) S_ .f32 0x41000000#32))
/-- The sines of 64 positions over 8. -/
def sin64 : FVec Ideal S64x64 .f32 := Host.divf (Host.sin (angles 0x42800000#32)) (broadcastInDim S64x64 ![] bcast_S_S64x64 (constant (F := Ideal) S_ .f32 0x41000000#32))

/-- An entry of the cosines of 64 positions. -/
theorem cos64_at (k n : Fin 64) : cos64 (ix2 k n) = co k n := by
  pointwise [cos64, angles]
  rfl

/-- An entry of the sines of 64 positions. -/
theorem sin64_at (k n : Fin 64) : sin64 (ix2 k n) = si k n := by
  pointwise [sin64, angles]
  rfl

/-- An entry of the cosines of 4096 positions. -/
theorem cosAll_at (k n : Fin 64) : Host.cos (angles 0x45800000#32) (ix2 k n) = Ideal.cos (angle 0x45800000#32 k.val n.val) := by
  pointwise [angles]
  rfl

/-- An entry of the sines of 4096 positions. -/
theorem sinAll_at (k n : Fin 64) : Host.sin (angles 0x45800000#32) (ix2 k n) = Ideal.sin (angle 0x45800000#32 k.val n.val) := by
  pointwise [angles]
  rfl

/-- Products of a table by the late frequency and the point and one by the early frequency and the point. -/
def prods (a b : FVec Ideal S64x64 .f32) : FVec Ideal S64x64x64 .f32 :=
  mulf (broadcastInDim S64x64x64 ![0, 1, 2] bcast_S1x64x64_S64x64x64_0_1_2 (broadcastInDim S1x64x64 ![1, 2] bcast_S64x64_S1x64x64_1_2 a))
    (broadcastInDim S64x64x64 ![0, 1, 2] bcast_S64x1x64_S64x64x64_0_1_2 (broadcastInDim S64x1x64 ![0, 2] bcast_S64x64_S64x1x64_0_2 b))

/-- One of those products. -/
theorem prods_at (a b : FVec Ideal S64x64 .f32) (q k n : Fin 64) : prods a b (ix3 q k n) = (a (ix2 k n) * b (ix2 q n) : EReal) := by
  pointwise [prods]

/-- The position table as the host makes it from two tables by frequency and point and the identity. -/
def table (C S : FVec Ideal S64x64x64 .f32) (E : FVec Ideal S8x8 .f32) : FVec Ideal S8x512x1024 .bf16 :=
  truncf .bf16 (shapeCast S8x512x1024 (mulf (broadcastInDim S8x64x8x2x64x8 ![0, 1, 2, 3, 4, 5] bcast_S8x64x8x2x64x1_S8x64x8x2x64x8_0_1_2_3_4_5
      (broadcastInDim S8x64x8x2x64x1 ![0, 1, 2, 3, 4] bcast_S8x64x8x2x64_S8x64x8x2x64x1_0_1_2_3_4
        (transpose S8x64x8x2x64 [1, 3, 2, 0, 4] (shapeCast S2x8x8x64x64 (concatenate S2x64x64x64 0
          [⟨S1x64x64x64, broadcastInDim S1x64x64x64 ![1, 2, 3] bcast_S64x64x64_S1x64x64x64_1_2_3 C⟩, ⟨S1x64x64x64, broadcastInDim S1x64x64x64 ![1, 2, 3] bcast_S64x64x64_S1x64x64x64_1_2_3 S⟩]
          concatenates_S1x64x64x64_S1x64x64x64_S2x64x64x64_d0) shapeCasts_S2x64x64x64_S2x8x8x64x64) transposes_S2x8x8x64x64_S8x64x8x2x64_1_3_2_0_4)))
    (broadcastInDim S8x64x8x2x64x8 ![0, 1, 2, 3, 4, 5] bcast_S1x1x8x1x1x8_S8x64x8x2x64x8_0_1_2_3_4_5
      (broadcastInDim S1x1x8x1x1x8 ![2, 5] bcast_S8x8_S1x1x8x1x1x8_2_5 E))) shapeCasts_S8x64x8x2x64x8_S8x512x1024) bitsLt_bf16_f32

/-- The position table. -/
def positions : FVec Ideal S8x512x1024 .bf16 :=
  table (subf (prods cos64 (Host.cos (angles 0x45800000#32))) (prods sin64 (Host.sin (angles 0x45800000#32))))
    (addf (prods sin64 (Host.cos (angles 0x45800000#32))) (prods cos64 (Host.sin (angles 0x45800000#32)))) eye

/-- The position window's array is the position table. -/
theorem entry_positions : V m c main_v67 = positions := by rfl

/-- An entry of the position table over any tables. -/
theorem table_at (C S : FVec Ideal S64x64x64 .f32) (E : FVec Ideal S8x8 .f32) (i : Fin 8) (r : Fin 512) (x : Fin 1024) :
    table C S E (ix3 i r x)
      = ((if x.val / 512 < 1 then C (ix3 ⟨i.val * 8 + r.val % 8, by omega⟩ ⟨r.val / 8, by omega⟩ ⟨x.val / 8 % 64, by omega⟩)
          else S (ix3 ⟨i.val * 8 + r.val % 8, by omega⟩ ⟨r.val / 8, by omega⟩ ⟨x.val / 8 % 64, by omega⟩))
        * E (ix2 ⟨r.val % 8, by omega⟩ ⟨x.val % 8, by omega⟩) : EReal) := by
  pointwise [table]
  try rfl

end Cert.PosnIdeal.Table
end
-- ==== Proof.PosnMath.lean ====
/- The turns of 4096 positions, from those of 64 positions by the addition theorems. -/
module

public import proofs.«01_k».proof.Proof.FourierMath
public import Mathlib.Analysis.SpecialFunctions.Trigonometric.Basic

@[expose] public section

set_option maxRecDepth 16384

noncomputable section

open Idealize.ShloMosaic Idealize.ShloMosaic.TcCoe Idealize.SL.Sem

namespace FourierMath

/-- The cosines of 4096 positions, over 8. -/
def turnCos (s n : ℕ) : EReal := Ideal.div (Ideal.cos (angle 0x45800000#32 s n)) (Ideal.ofBits .f32 0x41000000#32)

/-- The sines of 4096 positions, over 8. -/
def turnSin (s n : ℕ) : EReal := Ideal.div (Ideal.sin (angle 0x45800000#32 s n)) (Ideal.ofBits .f32 0x41000000#32)

/-- The word of the full turn is a real. -/
theorem word_turn : Ideal.ofBits FTy.f32 0x40C90FDB#32 = ((13176795 / 2097152 : ℝ) : EReal) := by
  simp +decide [Ideal.ofBits, Ideal.ieee, Nat.shiftRight_eq_div_pow]; norm_num; rw [← EReal.coe_mul]; norm_num

/-- The word of 64. -/
theorem word_64 : Ideal.ofBits FTy.f32 0x42800000#32 = ((64 : ℝ) : EReal) := by
  simp +decide [Ideal.ofBits, Ideal.ieee, Nat.shiftRight_eq_div_pow]; norm_num; rw [← EReal.coe_mul]; norm_num

/-- The word of 4096. -/
theorem word_4096 : Ideal.ofBits FTy.f32 0x45800000#32 = ((4096 : ℝ) : EReal) := by
  simp +decide [Ideal.ofBits, Ideal.ieee, Nat.shiftRight_eq_div_pow]; norm_num; rw [← EReal.coe_mul]; norm_num

/-- The word of 8. -/
theorem word_8 : Ideal.ofBits FTy.f32 0x41000000#32 = ((8 : ℝ) : EReal) := by
  simp +decide [Ideal.ofBits, Ideal.ieee, Nat.shiftRight_eq_div_pow]; norm_num; rw [← EReal.coe_mul]; norm_num

/-- A small index as a float is that index. -/
theorem num_real (n : ℕ) (h : n < 4096) : num n = ((n : ℝ) : EReal) := by
  have e : (BitVec.ofNat 32 n).toInt = (n : ℤ) := by
    rw [BitVec.toInt_eq_toNat_of_lt] <;> rw [BitVec.toNat_ofNat] <;> omega
  change (((BitVec.ofNat 32 n).toInt : ℝ) : EReal) = _
  rw [e]
  rfl

/-- An angle is a real. -/
theorem angle_real (w : BitVec 32) (W : ℝ) (hW : W ≠ 0) (hw : Ideal.ofBits .f32 w = (W : EReal)) (a b : ℕ) (ha : a < 4096) (hb : b < 4096) :
    angle w a b = ((13176795 / 2097152 * (a * b) * (1 / W) : ℝ) : EReal) := by
  unfold angle
  rw [hw, word_turn, num_real a ha, num_real b hb, Ideal.div_coe hW, ← EReal.coe_mul, ← EReal.coe_mul, ← EReal.coe_mul]

/-- A late frequency's angle and an early one's add up to the angle of the frequency they are of. -/
theorem angles_add (k q n : ℕ) : (13176795 / 2097152 * (k * n) * (1 / 64) + 13176795 / 2097152 * (q * n) * (1 / 4096) : ℝ)
    = 13176795 / 2097152 * (((64 * k + q : ℕ) : ℝ) * n) * (1 / 4096) := by
  push_cast
  ring

variable (k q n : Fin 64)

/-- The cosine of the sum, over 8. -/
theorem turnCos_eq : co k n * Ideal.cos (angle 0x45800000#32 q.val n.val) - si k n * Ideal.sin (angle 0x45800000#32 q.val n.val)
    = turnCos (64 * k.val + q.val) n.val := by
  unfold co si turnCos
  rw [angle_real _ 64 (by norm_num) word_64 k.val n.val (by omega) (by omega), angle_real _ 4096 (by norm_num) word_4096 q.val n.val (by omega) (by omega),
    angle_real _ 4096 (by norm_num) word_4096 (64 * k.val + q.val) n.val (by omega) (by omega), ← angles_add, word_8,
    Ideal.div_coe (by norm_num), Ideal.div_coe (by norm_num), Ideal.div_coe (by norm_num), Ideal.cos_coe, Ideal.cos_coe, Ideal.cos_coe, Ideal.sin_coe, Ideal.sin_coe, Real.cos_add]
  simp only [← EReal.coe_mul, ← EReal.coe_sub]
  exact congrArg _ (by ring)

/-- The sine of the sum, over 8. -/
theorem turnSin_eq : si k n * Ideal.cos (angle 0x45800000#32 q.val n.val) + co k n * Ideal.sin (angle 0x45800000#32 q.val n.val)
    = turnSin (64 * k.val + q.val) n.val := by
  unfold co si turnSin
  rw [angle_real _ 64 (by norm_num) word_64 k.val n.val (by omega) (by omega), angle_real _ 4096 (by norm_num) word_4096 q.val n.val (by omega) (by omega),
    angle_real _ 4096 (by norm_num) word_4096 (64 * k.val + q.val) n.val (by omega) (by omega), ← angles_add, word_8,
    Ideal.div_coe (by norm_num), Ideal.div_coe (by norm_num), Ideal.div_coe (by norm_num), Ideal.cos_coe, Ideal.cos_coe, Ideal.sin_coe, Ideal.sin_coe, Ideal.sin_coe, Real.sin_add]
  simp only [← EReal.coe_mul, ← EReal.coe_add]
  exact congrArg _ (by ring)

end FourierMath

end
-- ==== Proof.PosnStored.lean ====
/- What one grid point of the second Fourier call stores, from the rows it reads. -/
module

public import proofs.«01_k».proof.Proof.PosnBody
public import proofs.«01_k».proof.Proof.PosnTable
public import proofs.«01_k».proof.Proof.PosnMath

@[expose] public section

set_option maxRecDepth 16384

noncomputable section

open Idealize.ShloMosaic Idealize.ShloMosaic.TcCoe Idealize.SL.Sem

namespace Cert.PosnIdeal.Stored
open Cert.PosnIdeal Cert.PosnIdeal.Gen Cert.PosnIdeal.Value FourierMath Table Body

/-- The table's cosines before they are set among remainders. -/
theorem turnCos_at (q k n : Fin 64) :
    subf (prods cos64 (Host.cos (angles 0x45800000#32))) (prods sin64 (Host.sin (angles 0x45800000#32))) (ix3 q k n) = turnCos (64 * k.val + q.val) n.val := by
  refine Eq.trans (congrArg₂ (· - ·) ((prods_at _ _ q k n).trans ?_) ((prods_at _ _ q k n).trans ?_)) (turnCos_eq k q n)
  · exact congrArg₂ (· * ·) (cos64_at k n) (cosAll_at q n)
  · exact congrArg₂ (· * ·) (sin64_at k n) (sinAll_at q n)

/-- The table's sines before they are set among remainders. -/
theorem turnSin_at (q k n : Fin 64) :
    addf (prods sin64 (Host.cos (angles 0x45800000#32))) (prods cos64 (Host.sin (angles 0x45800000#32))) (ix3 q k n) = turnSin (64 * k.val + q.val) n.val := by
  refine Eq.trans (congrArg₂ (· + ·) ((prods_at _ _ q k n).trans ?_) ((prods_at _ _ q k n).trans ?_)) (turnSin_eq k q n)
  · exact congrArg₂ (· * ·) (sin64_at k n) (cosAll_at q n)
  · exact congrArg₂ (· * ·) (cos64_at k n) (sinAll_at q n)

/-- The table's left half: cosines of the one remainder. -/
theorem left_half (i : Fin 8) (k : Fin 64) (b : Fin 8) (l : Fin 512) :
    positions (ix3 i ⟨k.val * 8 + b.val, by omega⟩ ⟨l.val, by omega⟩)
      = (turnCos (64 * k.val + (8 * i.val + b.val)) (l.val / 8) * (if b = (⟨l.val % 8, by omega⟩ : Fin 8) then 1 else 0) : EReal) := by
  refine (table_at _ _ _ i _ _).trans (congrArg₂ (· * ·) ((if_pos (by simp only []; omega)).trans ((turnCos_at _ _ _).trans (congrArg₂ turnCos ?_ ?_))) ((congrArg eye (congrArg₂ ix2 (Fin.ext ?_) (Fin.ext ?_))).trans (eye_at b _))) <;>
    simp only [] <;> omega

/-- The table's right half: sines of the one remainder. -/
theorem right_half (i : Fin 8) (k : Fin 64) (b : Fin 8) (l : Fin 512) :
    positions (ix3 i ⟨k.val * 8 + b.val, by omega⟩ ⟨512 + l.val, by omega⟩)
      = (turnSin (64 * k.val + (8 * i.val + b.val)) (l.val / 8) * (if b = (⟨l.val % 8, by omega⟩ : Fin 8) then 1 else 0) : EReal) := by
  refine (table_at _ _ _ i _ _).trans (congrArg₂ (· * ·) ((if_neg (by simp only []; omega)).trans ((turnSin_at _ _ _).trans (congrArg₂ turnSin ?_ ?_))) ((congrArg eye (congrArg₂ ix2 (Fin.ext ?_) (Fin.ext ?_))).trans (eye_at b _))) <;>
    simp only [] <;> omega

/-- Channel `j` of the cosine half. -/
def early (j : Fin 512) : Fin 1024 := ⟨j.val, by omega⟩
/-- Channel `j` of the sine half. -/
def late (j : Fin 512) : Fin 1024 := ⟨512 + j.val, by omega⟩

/-- A row of a half of the position table on the rows `Z` is the sum over the positions of the one remainder. -/
theorem over_positions (f : Fin 512 → EReal) (T : Fin 64 → EReal) (Z : Fin 64 → Fin 8 → EReal) (b : Fin 8)
    (h : ∀ l, f l = T ⟨l.val / 8, by omega⟩ * (if b = (⟨l.val % 8, by omega⟩ : Fin 8) then 1 else 0)) :
    ∑ l : Fin 512, f l * Z ⟨l.val / 8, by omega⟩ ⟨l.val % 8, by omega⟩ = ∑ p, Z p b * T p := by
  rw [lane_row f (fun l => Z ⟨l.val / 8, by omega⟩ ⟨l.val % 8, by omega⟩) T b h]
  refine Finset.sum_congr rfl fun n _ => congrArg₂ (· * ·) (congrArg₂ Z (Fin.ext ?_) (Fin.ext ?_)) rfl <;>
    simp only [] <;> omega

variable (x : Vec Ideal S1x64x1x8x1024 .f32) (a : Vec Ideal S1x512x1024 .bf16) (w : Vec Ideal S4x128x128 .bf16) (i : Fin 8)
variable (G : Fin 64 → Fin 8 → Fin 1024 → EReal) (W : Fin 4 → Fin 128 → Fin 128 → EReal)
variable (hx : ∀ p e j, x (ix5 0 p 0 e j) = G p e j) (ha : ∀ r l, a (ix3 0 r l) = positions (ix3 i r l))
variable (hw : ∀ g k l, w (ix3 g k l) = W g k l)

include hx ha in
/-- A row of the table's left half on one channel of the cosine half. -/
theorem cos_row (k : Fin 64) (b : Fin 8) (j : Fin 512) :
    (∑ l : Fin 512, a (ix3 0 ⟨k.val * 8 + b.val, by omega⟩ ⟨l.val, by omega⟩) * x (ix5 0 ⟨l.val / 8, by omega⟩ 0 ⟨l.val % 8, by omega⟩ ⟨j.val, by omega⟩) : EReal)
      = ∑ p : Fin 64, G p b (early j) * turnCos (64 * k.val + (8 * i.val + b.val)) p.val :=
  Eq.trans (Finset.sum_congr rfl fun l _ => congrArg₂ (· * ·) ((ha _ _).trans (left_half i k b l)) (hx _ _ (early j)))
    (over_positions _ (fun p => turnCos (64 * k.val + (8 * i.val + b.val)) p.val) (fun p e => G p e (early j)) b fun l => rfl)

include hx ha in
/-- A row of the table's right half on one channel of the sine half. -/
theorem sin_row (k : Fin 64) (b : Fin 8) (j : Fin 512) :
    (∑ l : Fin 512, a (ix3 0 ⟨k.val * 8 + b.val, by omega⟩ ⟨512 + l.val, by omega⟩) * x (ix5 0 ⟨l.val / 8, by omega⟩ 0 ⟨l.val % 8, by omega⟩ ⟨512 + j.val, by omega⟩) : EReal)
      = ∑ p : Fin 64, G p b (late j) * turnSin (64 * k.val + (8 * i.val + b.val)) p.val :=
  Eq.trans (Finset.sum_congr rfl fun l _ => congrArg₂ (· * ·) ((ha _ _).trans (right_half i k b l)) (hx _ _ (late j)))
    (over_positions _ (fun p => turnSin (64 * k.val + (8 * i.val + b.val)) p.val) (fun p e => G p e (late j)) b fun l => rfl)

include hx ha hw in
/-- The stored entries. -/
theorem stored (k : Fin 64) (b : Fin 8) (j : Fin 512) : out0_3 (F := Ideal) x a w (ix5 0 k 0 b j)
      = ∑ d : Fin 128, ((∑ p : Fin 64, G p b (early ⟨128 * (j.val / 128) + d.val, by omega⟩) * turnCos (64 * k.val + (8 * i.val + b.val)) p.val)
          + ∑ p : Fin 64, G p b (late ⟨128 * (j.val / 128) + d.val, by omega⟩) * turnSin (64 * k.val + (8 * i.val + b.val)) p.val)
        * W ⟨j.val / 128, by omega⟩ d ⟨j.val % 128, by omega⟩ := by
  rw [out_at]
  exact Finset.sum_congr rfl fun d _ => congrArg₂ (· * ·) (congrArg₂ (· + ·) (cos_row x a i G hx ha k b ⟨128 * (j.val / 128) + d.val, by omega⟩)
    (sin_row x a i G hx ha k b ⟨128 * (j.val / 128) + d.val, by omega⟩)) (hw _ _ _)

end Cert.PosnIdeal.Stored
end
-- ==== Proof.PosnRefRow.lean ====
/- The reference of the second Fourier call, entry by entry. -/
module

public import proofs.«01_k».proof.Proof.Gen.PosnRefIdeal.Read
public import proofs.«01_k».proof.Proof.PosnMath

@[expose] public section

set_option maxRecDepth 16384

noncomputable section

open Idealize.ShloMosaic Idealize.ShloMosaic.TcCoe Idealize.SL.Sem

namespace Cert.PosnRefIdeal.Row
open Cert.PosnRefIdeal Cert.PosnRefIdeal.Gen Cert.PosnRefIdeal.Read FourierMath

variable (y : FVec Ideal S16x4096x1024 .f32) (w : FVec Ideal S4x128x128 .f32)

/-- The cosines. -/
theorem cos_at (k q m : Fin 64) : val_main_v15 (F := Ideal) (ix3 k q m) = turnCos (64 * k.val + q.val) m.val := by
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rw [Nat.mul_comm k.val 64]
  rfl

/-- The sines. -/
theorem sin_at (k q m : Fin 64) : val_main_v18 (F := Ideal) (ix3 k q m) = turnSin (64 * k.val + q.val) m.val := by
  pointwise [val_main_v18, val_main_v17, val_main_v16, val_main_v12, val_main_v11, val_main_v10, val_main_v9, val_main_v8, val_main_v7, val_main_v6, val_main_v5, val_main_v4, val_main_v3, val_main_v2, val_main_v1, val_main_cst, val_main_cst_0, val_main_cst_1, val_main_cst_2]
  rw [Nat.mul_comm k.val 64]
  rfl

/-- The cosine half at frequency `64 k + q`. -/
theorem cos_half (n : Fin 16) (k q : Fin 64) (j : Fin 512) : val_main_v22 (F := Ideal) y (ix4 n k q j)
    = ∑ p : Fin 64, y (ix3 n ⟨64 * p.val + q.val, by omega⟩ ⟨j.val, by omega⟩) * turnCos (64 * k.val + q.val) p.val := by
  pointwise [val_main_v22, val_main_v21, val_main_v20, val_main_v19, val_main_v0]
  refine Finset.sum_congr rfl fun p _ => congrArg₂ (· * ·) (congrArg y (congrArg₂ (ix3 n) (Fin.ext ?_) (Fin.ext ?_))) (cos_at ..) <;> simp only [] <;> omega

/-- The sine half at frequency `64 k + q`. -/
theorem sin_half (n : Fin 16) (k q : Fin 64) (j : Fin 512) : val_main_v26 (F := Ideal) y (ix4 n k q j)
    = ∑ p : Fin 64, y (ix3 n ⟨64 * p.val + q.val, by omega⟩ ⟨512 + j.val, by omega⟩) * turnSin (64 * k.val + q.val) p.val := by
  pointwise [val_main_v26, val_main_v25, val_main_v24, val_main_v23, val_main_v22, val_main_v21, val_main_v20, val_main_v19, val_main_v0]
  refine Finset.sum_congr rfl fun p _ => congrArg₂ (· * ·) (congrArg y (congrArg₂ (ix3 n) (Fin.ext ?_) (Fin.ext ?_))) (sin_at ..) <;> simp only [] <;> omega

/-- The transform's real part at frequency `64 k + 8 i + e`. -/
def freq (n : Fin 16) (k : Fin 64) (i e : Fin 8) (j : Fin 512) : EReal :=
  ∑ p : Fin 64, y (ix3 n ⟨64 * p.val + (8 * i.val + e.val), by omega⟩ ⟨j.val, by omega⟩) * turnCos (64 * k.val + (8 * i.val + e.val)) p.val
    + ∑ p : Fin 64, y (ix3 n ⟨64 * p.val + (8 * i.val + e.val), by omega⟩ ⟨512 + j.val, by omega⟩) * turnSin (64 * k.val + (8 * i.val + e.val)) p.val

/-- The result: each group's channels by the group's weights. -/
theorem out_at (n : Fin 16) (k : Fin 64) (i e : Fin 8) (j : Fin 512) : val_main_v31 (F := Ideal) y w (ix5 n k i e j)
    = ∑ d : Fin 128, freq y n k i e ⟨128 * (j.val / 128) + d.val, by omega⟩ * w (ix3 ⟨j.val / 128, by omega⟩ d ⟨j.val % 128, by omega⟩) := by
  pointwise [val_main_v31, val_main_v30, val_main_v29, val_main_v28, val_main_v27]
  refine Finset.sum_congr rfl fun d _ => (mul_comm _ _).trans (congrArg₂ (· * ·) ?_ rfl)
  have h : (⟨(k.val * 64 + i.val * 8 + e.val) % 64, by omega⟩ : Fin 64) = ⟨8 * i.val + e.val, by omega⟩ := Fin.ext (by simp only []; omega)
  have g : (⟨j.val / 128 * 128 + d.val, by omega⟩ : Fin 512) = ⟨128 * (j.val / 128) + d.val, by omega⟩ := Fin.ext (by simp only []; omega)
  rw [h, g]
  exact congrArg₂ (· + ·) (cos_half y n k _ _) (sin_half y n k _ _)

end Cert.PosnRefIdeal.Row
end
-- ==== Proof.PosnVal.lean ====
/- The value of the second Fourier call: the real part of the transform over the positions, by the groups' weights. -/
module

public import proofs.«01_k».proof.Proof.PosnStored
public import proofs.«01_k».proof.Proof.PosnRefRow

@[expose] public section

set_option maxRecDepth 16384

noncomputable section

open Idealize.ShloMosaic Idealize.ShloMosaic.TcCoe Idealize.SL.Sem
open Idealize.ShloMosaic.Pipeline (Dat)

namespace Cert.PosnIdeal.Bridge
open Cert.PosnIdeal Cert.PosnIdeal.Gen Cert.PosnIdeal.Value FourierMath Table Cert.PosnRefIdeal.Row

variable (m : (ℓ : Loc nD τ sig) → Buf (Elt Ideal) ℓ) (c : Dev nD) (t : Fin cfg0.N)

/-- The block every window is at, at every grid point: of sequence `t / 8` the remainders `8 (t % 8)` to
    `8 (t % 8) + 7`, and the table of those; the weights whole. -/
theorem where_at : ∀ t : Fin cfg0.N, win0_0.index t = ![t.val / 8, 0, t.val % 8, 0, 0]
    ∧ win0_1.index t = ![t.val % 8, 0, 0]
    ∧ win0_2.index t = ![0, 0, 0]
    ∧ win0_3.index t = ![t.val / 8, 0, t.val % 8, 0, 0] :=
  (by decide +kernel : ∀ t : Fin grid0.N, _)

/-- The sequence of a grid point. -/
def batch (t : Fin cfg0.N) : Fin 16 := ⟨t.val / 8, by have := t.isLt; change t.val < 128 at this; omega⟩

/-- The eight remainders of a grid point. -/
def rest (t : Fin cfg0.N) : Fin 8 := ⟨t.val % 8, by omega⟩

/-- The position that remainder `e` of a grid point has at `p`. -/
def place (t : Fin cfg0.N) (p : Fin 64) (e : Fin 8) : Fin 4096 := ⟨64 * p.val + (8 * (rest t).val + e.val), by have := (rest t).isLt; omega⟩

/-- The transformed channels as the launch finds them. -/
abbrev arg : FVec Ideal S16x4096x1024 .f32 := m ((c : Thread nD τ).loc main_arg0)
/-- The weights as the launch finds them. -/
abbrev wts : FVec Ideal S4x128x128 .f32 := m ((c : Thread nD τ).loc main_arg1)

/-- The input as the call reads it: position by position and remainder by remainder. -/
theorem entry_input : V m c main_v69 = shapeCast S16x64x8x8x1024 (arg m c) shapeCasts_S16x4096x1024_S16x64x8x8x1024 := by rfl

/-- The weights as the call reads them. -/
theorem entry_weights : V m c main_v68 = truncf .bf16 (wts m c) bitsLt_bf16_f32 := by rfl

/-- The input's block. -/
theorem x_at (p : Fin 64) (e : Fin 8) (j : Fin 1024) : iblk m c 0 t (ix5 0 p 0 e j) = arg m c (ix3 (batch t) (place t p e) j) := by
  have h : iblk m c 0 t (ix5 0 p 0 e j) = V m c main_v69 (ix5 (batch t) p (rest t) e j) := by
    blk_simp [iblk]
    refine congrArg (V m c main_v69) ?_
    blk_ext [where_at t] <;> simp [batch, rest]
  rw [h, entry_input]
  pointwise []
  refine congrArg (arg m c) (congrArg (fun s => ix3 _ s _) (Fin.ext ?_)) <;> simp only [place] <;> omega

/-- The position table's block. -/
theorem p_at (r : Fin 512) (l : Fin 1024) : iblk m c 1 t (ix3 0 r l) = positions (ix3 (rest t) r l) := by
  refine Eq.trans ?_ (congrFun (entry_positions m c) (ix3 (rest t) r l))
  blk_simp [iblk]
  refine congrArg (V m c main_v67) ?_
  blk_ext [where_at t] <;> simp [rest]

/-- The weights' block. -/
theorem w_at (g : Fin 4) (k l : Fin 128) : iblk m c 2 t (ix3 g k l) = wts m c (ix3 g k l) := by
  refine Eq.trans ?_ (congrFun (entry_weights m c) (ix3 g k l))
  blk_simp [iblk]
  refine congrArg (V m c main_v68) ?_
  blk_ext [where_at t]

/-- What a grid point stores is the reference's value there. -/
theorem point (k : Fin 64) (b : Fin 8) (j : Fin 512) :
    out0_3 (F := Ideal) (iblk m c 0 t) (iblk m c 1 t) (iblk m c 2 t) (ix5 0 k 0 b j)
      = Cert.PosnRefIdeal.Read.val_main_v31 (F := Ideal) (arg m c) (wts m c) (ix5 (batch t) k (rest t) b j) :=
  (Stored.stored _ _ _ (rest t) (fun p e j => arg m c (ix3 (batch t) (place t p e) j)) (fun g k l => wts m c (ix3 g k l))
    (x_at m c t) (p_at m c t) (w_at m c t) k b j).trans (out_at (arg m c) (wts m c) (batch t) k (rest t) b j).symm

/-- The result array after the run is the reference's. -/
theorem final : (dats m 0 c).arrAt 3 (cfgs 0).N = Cert.PosnRefIdeal.Read.val_main_v31 (F := Ideal) (arg m c) (wts m c) := by
  refine (dats m 0 c).arrAt_eq_of_covers 3 _ (by decide +kernel) fun t hf y => ?_
  blk_simp; rw [after0_3]
  idx_vars y
  obtain rfl : y0 = 0 := Subsingleton.elim _ _
  obtain rfl : y2 = 0 := Subsingleton.elim _ _
  refine (point m c t y1 y3 y4).trans (congrArg _ ?_)
  blk_ext [where_at t] <;> simp [batch, rest]

end Cert.PosnIdeal.Bridge
end
-- ==== Proof.PosnClaim.lean ====
/- The algebraic claim of the Posn program: after its run each result is the reference's. -/
module

public import proofs.«01_k».proof.Defs
public import proofs.«01_k».proof.Proof.PosnVal
public import proofs.«01_k».proof.Proof.Gen.PosnRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.PosnIdeal.Bridge.algebraic : Cert.algebraic_PosnIdeal_PosnRefIdeal := by
  pair_intro
  · run_from Cert.PosnIdeal.Gen.run_main m g
  · run_from Cert.PosnRefIdeal.Value.run m' g'
    refine (Cert.PosnRefIdeal.Read.val_main_v31_eq _ _).trans ?_
    exact (Cert.PosnIdeal.Bridge.final m c).symm

/-- The reference runs, keeps its arguments and has no semaphore. -/
theorem Cert.PosnRefIdeal.Row.frame : Cert.quiescent_PosnRefIdeal := fun m ρ _ =>
  (θ_run Cert.PosnRefIdeal.defs _ _).mono
    (fun r h => ⟨fun c => (h c).2, sem_eq_zero_of_no_sems (by decide) r.2⟩)
    (Cert.PosnRefIdeal.Value.run (F := Ideal) m ρ)

end
-- ==== Proof.FirstBody.lean ====
/- What one grid point of the first layer's post kernel stores, from its blocks alone: each row normalised, then as in
   the last layer. -/
module

public import proofs.«01_k».proof.Proof.Gen.FirstIdeal.Value
public import proofs.«01_k».proof.Proof.PostBody

@[expose] public section

set_option maxRecDepth 16384

noncomputable section

open Idealize.ShloMosaic Idealize.ShloMosaic.TcCoe Idealize.SL.Sem

namespace Cert.FirstIdeal.Body
open Cert.FirstIdeal Cert.FirstIdeal.Gen Cert.FirstIdeal.Value LayerMath
open Cert.PostIdeal.Body (up0_at up1_at up2_at up3_at down0_at down1_at down2_at down3_at tile_sum)

/-- The embedded row. -/
theorem embedded_at (x : FVec Ideal S1x512x1024 .f32) (eg eb : FVec Ideal S1x1024 .f32) (r : Fin 512) (j : Fin 1024) :
    k0_pay2 (F := Ideal) x eg eb (ix2 r j) = ln (fun k => x (ix3 0 r k)) (fun k => eg (ix2 0 k)) (fun k => eb (ix2 0 k)) j := by
  pointwise [k0_pay2]
  rfl

/-- The row after the mixing branch. -/
theorem mixed_at (v : FVec Ideal S512x1024 .f32) (f a : FVec Ideal S1x512x512 .f32) (wo : FVec Ideal S1024x1024 .bf16)
    (g b : FVec Ideal S1x1024 .f32) (r : Fin 512) (j : Fin 1024) :
    k0_pay5 (F := Ideal) v (k0_pay3 f a wo) k0_pay4 g b (ix2 r j)
      = mixed (fun k => v (ix2 r k)) (fun k => f (ix3 0 r k)) (fun k => a (ix3 0 r k))
          (fun k l => wo (ix2 k l)) (fun k => g (ix2 0 k)) (fun k => b (ix2 0 k)) j := by
  pointwise [k0_pay3, k0_pay4, k0_pay5]
  rfl

/-- The MLP in four tiles of its hidden units, the residual and the last normalisation. -/
theorem mlp_at (v h s : FVec Ideal S512x1024 .f32) (g b : FVec Ideal S1x1024 .f32)
    (u0 u1 u2 u3 d0 d1 d2 d3 : FVec Ideal S1024x1024 .bf16) (g2 b2 : FVec Ideal S1x1024 .f32) (r : Fin 512) (j : Fin 1024) :
    k0_pay1 (k0_pay9 (F := Ideal) (k0_pay5 v h s g b) (k0_pay6 v h s g b) (k0_pay7 v h s g b u0 d0) (k0_pay8 v h s g b u1) (Scalar.ofBits .f32 0x00000000#32) d1 u2 d2 u3 d3)
        (k0_pay10 g2) (k0_pay11 b2) (ix3 0 r j)
      = ln (residual (fun k => k0_pay5 v h s g b (ix2 r k)) (fun l => through (hidden (fun k => k0_pay5 v h s g b (ix2 r k)) (fun k l => u0 (ix2 k l))) (fun k l => d0 (ix2 k l)) l
         + through (hidden (fun k => k0_pay5 v h s g b (ix2 r k)) (fun k l => u1 (ix2 k l))) (fun k l => d1 (ix2 k l)) l
         + through (hidden (fun k => k0_pay5 v h s g b (ix2 r k)) (fun k l => u2 (ix2 k l))) (fun k l => d2 (ix2 k l)) l
         + through (hidden (fun k => k0_pay5 v h s g b (ix2 r k)) (fun k l => u3 (ix2 k l))) (fun k l => d3 (ix2 k l)) l))
          (fun k => g2 (ix2 0 k)) (fun k => b2 (ix2 0 k)) j := by
  have h6 : k0_pay6 v h s g b = k0_pay5 (F := Ideal) v h s g b := by
    funext i; idx_vars i; pointwise [k0_pay6]
  pointwise [k0_pay1, k0_pay7, k0_pay8, k0_pay9, k0_pay10, k0_pay11, h6]
  rfl

variable (u : Vec Ideal S1024x4096 .bf16) (d : Vec Ideal S4096x1024 .bf16)

/-- A stored row is the embedded row after the mixing branch and the MLP. -/
theorem body_at (x : Vec Ideal S1x512x1024 .f32) (f a : Vec Ideal S1x512x512 .f32) (eg eb : Vec Ideal S1x1024 .f32)
    (wo : Vec Ideal S1024x1024 .bf16) (g b : Vec Ideal S1x1024 .f32) (g2 b2 : Vec Ideal S1x1024 .f32) (r : Fin 512) (j : Fin 1024) :
    out0_12 (F := Ideal) x f a eg eb wo g b u d g2 b2 (ix3 0 r j)
      = afterMlp (mixed (ln (fun k => x (ix3 0 r k)) (fun k => eg (ix2 0 k)) (fun k => eb (ix2 0 k))) (fun k => f (ix3 0 r k)) (fun k => a (ix3 0 r k))
          (fun k l => wo (ix2 k l)) (fun k => g (ix2 0 k)) (fun k => b (ix2 0 k)))
          (fun k l => u (ix2 k l)) (fun k l => d (ix2 k l)) (fun k => g2 (ix2 0 k)) (fun k => b2 (ix2 0 k)) j := by
  unfold out0_12 k0_pay14 k0_pay13 k0_pay12
  frame_out
  rw [mlp_at]
  simp only [mixed_at, embedded_at]
  unfold afterMlp
  refine congrArg (fun z => ln (residual _ z) _ _ j) (funext fun l => ?_)
  rw [through_tiles]
  refine congrArg₂ (· + ·) (congrArg₂ (· + ·) (congrArg₂ (· + ·) ?_ ?_) ?_) ?_
  · exact tile_sum _ (fun k => ⟨k.val, by omega⟩) _ _ (fun k l => u (ix2 k l)) (fun k l => d (ix2 k l)) (up0_at u) (down0_at d) l
  · exact tile_sum _ (fun k => ⟨1024 + k.val, by omega⟩) _ _ (fun k l => u (ix2 k l)) (fun k l => d (ix2 k l)) (up1_at u) (down1_at d) l
  · exact tile_sum _ (fun k => ⟨2048 + k.val, by omega⟩) _ _ (fun k l => u (ix2 k l)) (fun k l => d (ix2 k l)) (up2_at u) (down2_at d) l
  · exact tile_sum _ (fun k => ⟨3072 + k.val, by omega⟩) _ _ (fun k l => u (ix2 k l)) (fun k l => d (ix2 k l)) (up3_at u) (down3_at d) l

end Cert.FirstIdeal.Body
end
-- ==== Proof.FirstRefRow.lean ====
/- The first layer's reference: the embedding normalisation, then the last layer's reference. -/
module

public import proofs.«01_k».proof.Proof.Gen.FirstRefIdeal.Read
public import proofs.«01_k».proof.Proof.PostRefRow

@[expose] public section

set_option maxRecDepth 16384

noncomputable section

open Idealize.ShloMosaic Idealize.ShloMosaic.TcCoe Idealize.SL.Sem

namespace Cert.FirstRefIdeal.Row
open Cert.FirstRefIdeal Cert.FirstRefIdeal.Gen Cert.FirstRefIdeal.Read LayerMath

variable (x : FVec Ideal S16x4096x1024 .f32) (f a : FVec Ideal S16x4096x512 .f32) (wo : FVec Ideal S1024x1024 .f32)
  (eg eb g b g2 b2 : FVec Ideal S1024 .f32) (w1 : FVec Ideal S1024x4096 .f32) (w2 : FVec Ideal S4096x1024 .f32)

/-- The additions over a row begin at zero. -/
theorem start0 (i : S_.Idx) : val_main_cst (F := Ideal) i = 0 := Ideal.ofBits_zero .f32

/-- The embedded row. -/
theorem embedded_at (n : Fin 16) (s : Fin 4096) (j : Fin 1024) :
    val_main_v23 (F := Ideal) x eg eb (ix3 n s j) = ln (fun k => x (ix3 n s k)) (fun k => eg (ix1 k)) (fun k => eb (ix1 k)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst_0, val_main_cst_1, val_main_cst_2, val_main_cst_3]
  simp only [start0, zero_add]
  rfl

/-- From the embedded rows on the first layer is the last one. -/
theorem from_embedded :
    val_main_v84 (F := Ideal) x f a eg eb wo g b w1 w2 g2 b2
      = Cert.PostRefIdeal.Read.val_main_v60 (F := Ideal) (val_main_v23 (F := Ideal) x eg eb) f a wo g b w1 w2 g2 b2 := by rfl

end Cert.FirstRefIdeal.Row
end
-- ==== Proof.FirstVal.lean ====
/- The value of the first layer's post kernel: the embedded row after the output projection, the residual normalisation and the MLP. -/
module

public import proofs.«01_k».proof.Proof.Gen.FirstIdeal.Value
public import proofs.«01_k».proof.Proof.FirstBody
public import proofs.«01_k».proof.Proof.FirstRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FirstIdeal.Bridge
open Cert.FirstIdeal Cert.FirstIdeal.Gen Cert.FirstIdeal.Value LayerMath

variable (m : (ℓ : Loc nD τ sig) → Buf (Elt Ideal) ℓ) (c : Dev nD) (t : Fin cfg0.N)

/-- The block every window is at, at every grid point: row block `t % 8` of batch `t / 8`, the weights whole. -/
theorem where_at : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 8, t.val % 8, 0] :=
  (by decide +kernel : ∀ t : Fin grid0.N, _)

/-- The batch of a grid point. -/
def batch (t : Fin cfg0.N) : Fin 16 := ⟨t.val / 8, by have := t.isLt; change t.val < 128 at this; omega⟩

/-- The sequence position of row `r` of a grid point. -/
def pos (t : Fin cfg0.N) (r : Fin 512) : Fin 4096 := ⟨t.val % 8 * 512 + r.val, by omega⟩

/-- The layer input's block. -/
theorem x_at (r : Fin 512) (k : Fin 1024) :
    iblk m c 0 t (ix3 0 r k) = m ((c : Thread nD τ).loc main_arg0) (ix3 (batch t) (pos t r) k) := by
  blk_point [iblk, V, where_at t] <;> simp [batch, pos]

/-- The Fourier channels' block. -/
theorem f_at (r : Fin 512) (k : Fin 512) :
    iblk m c 1 t (ix3 0 r k) = m ((c : Thread nD τ).loc main_arg1) (ix3 (batch t) (pos t r) k) := by
  blk_point [iblk, V, where_at t] <;> simp [batch, pos]

/-- The attention channels' block. -/
theorem a_at (r : Fin 512) (k : Fin 512) :
    iblk m c 2 t (ix3 0 r k) = m ((c : Thread nD τ).loc main_arg2) (ix3 (batch t) (pos t r) k) := by
  blk_point [iblk, V, where_at t] <;> simp [batch, pos]

/-- The embedding's gain. -/
theorem eg_at (k : Fin 1024) :
    iblk m c 3 t (ix2 0 k) = m ((c : Thread nD τ).loc main_arg3) (ix1 k) := by
  blk_point [iblk, V, where_at t]

/-- The embedding's offset. -/
theorem eb_at (k : Fin 1024) :
    iblk m c 4 t (ix2 0 k) = m ((c : Thread nD τ).loc main_arg4) (ix1 k) := by
  blk_point [iblk, V, where_at t]

/-- The output matrix. -/
theorem wo_at (k l : Fin 1024) :
    iblk m c 5 t (ix2 k l) = m ((c : Thread nD τ).loc main_arg5) (ix2 k l) := by
  blk_point [iblk, V, where_at t]

/-- The mixing gain. -/
theorem g_at (k : Fin 1024) :
    iblk m c 6 t (ix2 0 k) = m ((c : Thread nD τ).loc main_arg6) (ix1 k) := by
  blk_point [iblk, V, where_at t]

/-- The mixing offset. -/
theorem b_at (k : Fin 1024) :
    iblk m c 7 t (ix2 0 k) = m ((c : Thread nD τ).loc main_arg7) (ix1 k) := by
  blk_point [iblk, V, where_at t]

/-- The MLP's gain. -/
theorem g2_at (k : Fin 1024) :
    iblk m c 10 t (ix2 0 k) = m ((c : Thread nD τ).loc main_arg10) (ix1 k) := by
  blk_point [iblk, V, where_at t]

/-- The MLP's offset. -/
theorem b2_at (k : Fin 1024) :
    iblk m c 11 t (ix2 0 k) = m ((c : Thread nD τ).loc main_arg11) (ix1 k) := by
  blk_point [iblk, V, where_at t]

/-- The first MLP matrix. -/
theorem up_at (k : Fin 1024) (l : Fin 4096) :
    iblk m c 8 t (ix2 k l) = m ((c : Thread nD τ).loc main_arg8) (ix2 k l) := by
  blk_point [iblk, V, where_at t]

/-- The second MLP matrix. -/
theorem down_at (k : Fin 4096) (l : Fin 1024) :
    iblk m c 9 t (ix2 k l) = m ((c : Thread nD τ).loc main_arg9) (ix2 k l) := by
  blk_point [iblk, V, where_at t]

/-- What a grid point stores is the reference's value there. -/
theorem point (r : Fin 512) (j : Fin 1024) :
    out0_12 (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix3 0 r j)
      = Cert.FirstRefIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (batch t) (pos t r) j) := by
  rw [Body.body_at, Cert.FirstRefIdeal.Row.from_embedded, Cert.PostRefIdeal.Row.after_at]
  simp only [funext fun k => Cert.PostRefIdeal.Row.mixed_at _ _ _ _ _ _ (batch t) (pos t r) k,
    funext fun k => Cert.FirstRefIdeal.Row.embedded_at _ _ _ (batch t) (pos t r) k,
    x_at, f_at, a_at, eg_at, eb_at, wo_at, g_at, b_at, g2_at, b2_at, up_at, down_at]

/-- The result array after the run is the reference's. -/
theorem final : (dats m 0 c).arrAt 12 (cfgs 0).N = Cert.FirstRefIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp; rw [after0_12]
  idx_vars y
  obtain rfl : y0 = 0 := Subsingleton.elim _ _
  refine (point m c t y1 y2).trans (congrArg _ ?_)
  blk_ext [where_at t] <;> simp [batch, pos]

end Cert.FirstIdeal.Bridge
end
-- ==== Proof.FirstClaim.lean ====
/- The algebraic claim of the First program: after its run each result is the reference's. -/
module

public import proofs.«01_k».proof.Defs
public import proofs.«01_k».proof.Proof.FirstVal
public import proofs.«01_k».proof.Proof.Gen.FirstRefIdeal.Run
public import Idealize.ShloMosaic.Adequacy
public import Idealize.ShloMosaic.Lib.Quiescent
public import Idealize.ShloMosaic.Init

@[expose] public section

set_option maxRecDepth 16384

noncomputable section

open Idealize.ShloMosaic Idealize.ShloMosaic.TcCoe Idealize.SL.Sem

/-- Kernel and reference, from agreeing arguments, end with equal results. -/
theorem Cert.FirstIdeal.Bridge.algebraic : Cert.algebraic_FirstIdeal_FirstRefIdeal := by
  pair_intro
  · run_from Cert.FirstIdeal.Gen.run_main m g
  · run_from Cert.FirstRefIdeal.Value.run m' g'
    obtain ⟨h0, h1, h2, h3, h4, h5, h6, h7, h8, h9, h10, h11⟩ := hagree c
    refine Eq.trans ?_ (Eq.trans (Cert.FirstRefIdeal.Read.val_main_v84_eq (F := Ideal) (StableHlo.launchContents m' c)) ?_)
    · rw [← h10, ← h11]
    change Cert.FirstRefIdeal.Read.val_main_v84 (F := Ideal) (m' ((c.tc : Thread _ _).loc Cert.FirstRefIdeal.main_arg0)) (m' ((c.tc : Thread _ _).loc Cert.FirstRefIdeal.main_arg1)) (m' ((c.tc : Thread _ _).loc Cert.FirstRefIdeal.main_arg2)) (m' ((c.tc : Thread _ _).loc Cert.FirstRefIdeal.main_arg3)) (m' ((c.tc : Thread _ _).loc Cert.FirstRefIdeal.main_arg4)) (m' ((c.tc : Thread _ _).loc Cert.FirstRefIdeal.main_arg5)) (m' ((c.tc : Thread _ _).loc Cert.FirstRefIdeal.main_arg6)) (m' ((c.tc : Thread _ _).loc Cert.FirstRefIdeal.main_arg7)) (m' ((c.tc : Thread _ _).loc Cert.FirstRefIdeal.main_arg8)) (m' ((c.tc : Thread _ _).loc Cert.FirstRefIdeal.main_arg9)) (m' ((c.tc : Thread _ _).loc Cert.FirstRefIdeal.main_arg10)) (m' ((c.tc : Thread _ _).loc Cert.FirstRefIdeal.main_arg11)) = _
    rw [h0, h1, h2, h3, h4, h5, h6, h7, h8, h9, h10, h11]
    exact (Cert.FirstIdeal.Bridge.final m c).symm

/-- The reference runs, keeps its arguments and has no semaphore. -/
theorem Cert.FirstRefIdeal.Row.frame : Cert.quiescent_FirstRefIdeal := fun m ρ _ =>
  (θ_run Cert.FirstRefIdeal.defs _ _).mono
    (fun r h => ⟨fun c => (h c).2, sem_eq_zero_of_no_sems (by decide) r.2⟩)
    (Cert.FirstRefIdeal.Value.run (F := Ideal) m ρ)

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.PostVal
public import proofs.«01_k».proof.Proof.AttnVal
public import proofs.«01_k».proof.Proof.AttnClaim
public import proofs.«01_k».proof.Proof.ProjVal
public import proofs.«01_k».proof.Proof.PostClaim
public import proofs.«01_k».proof.Proof.ProjClaim
public import proofs.«01_k».proof.Proof.Gen.Sample
public import proofs.«01_k».proof.Proof.Gen.Sample.Skeleton
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Frame
public import proofs.«01_k».proof.Proof.Gen.SampleIdeal.Value
public import proofs.«01_k».proof.Proof.Gen.SampleRefIdeal
public import proofs.«01_k».proof.Proof.SampleClaim
public import proofs.«01_k».proof.Proof.Gen.SampleRefIdeal.Run
public import proofs.«01_k».proof.Proof.Gen.SampleRefIdeal.Read
public import proofs.«01_k».proof.Proof.Gen.Chan
public import proofs.«01_k».proof.Proof.Gen.Chan.Skeleton
public import proofs.«01_k».proof.Proof.Gen.Chan.Frame
public import proofs.«01_k».proof.Proof.Gen.ChanIdeal
public import proofs.«01_k».proof.Proof.Gen.ChanIdeal.Skeleton
public import proofs.«01_k».proof.Proof.Gen.ChanIdeal.Frame
public import proofs.«01_k».proof.Proof.Gen.ChanIdeal.Value
public import proofs.«01_k».proof.Proof.Gen.ChanRefIdeal
public import proofs.«01_k».proof.Proof.Gen.ChanRefIdeal.Run
public import proofs.«01_k».proof.Proof.Gen.ChanRefIdeal.Read
public import proofs.«01_k».proof.Proof.Gen.Posn
public import proofs.«01_k».proof.Proof.Gen.Posn.Skeleton
public import proofs.«01_k».proof.Proof.Gen.Posn.Frame
public import proofs.«01_k».proof.Proof.Gen.PosnIdeal
public import proofs.«01_k».proof.Proof.Gen.PosnIdeal.Skeleton
public import proofs.«01_k».proof.Proof.Gen.PosnIdeal.Frame
public import proofs.«01_k».proof.Proof.Gen.PosnIdeal.Value
public import proofs.«01_k».proof.Proof.Gen.PosnRefIdeal
public import proofs.«01_k».proof.Proof.Gen.PosnRefIdeal.Run
public import proofs.«01_k».proof.Proof.Gen.PosnRefIdeal.Read
public import proofs.«01_k».proof.Proof.Gen.First
public import proofs.«01_k».proof.Proof.Gen.First.Skeleton
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.ChanClaim
public import proofs.«01_k».proof.Proof.PosnClaim
public import proofs.«01_k».proof.Proof.FirstClaim
public import Idealize.ShloMosaic.Adequacy
public import Idealize.ShloMosaic.Init

@[expose] public section

noncomputable section

namespace Cert.Proof

open Idealize.ShloMosaic Idealize.SL.Sem

theorem claim : Cert.Claim := ⟨Cert.Attn.Gen.facts, Cert.AttnIdeal.Gen.facts, Cert.AttnRefIdeal.Gen.facts,
  Cert.Post.Gen.facts, Cert.PostIdeal.Gen.facts, Cert.PostRefIdeal.Gen.facts,
  Cert.Proj.Gen.facts, Cert.ProjIdeal.Gen.facts, Cert.ProjRefIdeal.Gen.facts,
  Cert.Sample.Gen.facts, Cert.SampleIdeal.Gen.facts, Cert.SampleRefIdeal.Gen.facts,
  Cert.Chan.Gen.facts, Cert.ChanIdeal.Gen.facts, Cert.ChanRefIdeal.Gen.facts,
  Cert.Posn.Gen.facts, Cert.PosnIdeal.Gen.facts, Cert.PosnRefIdeal.Gen.facts,
  Cert.First.Gen.facts, Cert.FirstIdeal.Gen.facts, Cert.FirstRefIdeal.Gen.facts, Cert.Pre_finite.facts,
  fun m ρ _ => Cert.Attn.Gen.frame m ρ, fun m ρ _ => Cert.AttnIdeal.Gen.frame m ρ, fun m ρ _ => Cert.AttnIdeal.Gen.frame m ρ,
  Cert.AttnRefIdeal.Row.frame, fun m g _ => Cert.AttnRefIdeal.Row.frame m g trivial,
  fun m ρ _ => Cert.Post.Gen.frame m ρ, fun m ρ _ => Cert.PostIdeal.Gen.frame m ρ, Cert.PostRefIdeal.Row.frame,
  fun m ρ _ => Cert.Proj.Gen.frame m ρ, fun m ρ _ => Cert.ProjIdeal.Gen.frame m ρ, Cert.ProjRefIdeal.Row.frame,
  fun m ρ _ => Cert.Sample.Gen.frame m ρ, fun m ρ _ => Cert.SampleIdeal.Gen.frame m ρ, Cert.SampleRefIdeal.Row.frame,
  fun m ρ _ => Cert.Chan.Gen.frame m ρ, fun m ρ _ => Cert.ChanIdeal.Gen.frame m ρ, Cert.ChanRefIdeal.Row.frame,
  fun m ρ _ => Cert.Posn.Gen.frame m ρ, fun m ρ _ => Cert.PosnIdeal.Gen.frame m ρ, Cert.PosnRefIdeal.Row.frame,
  fun m ρ _ => Cert.First.Gen.frame m ρ, fun m ρ _ => Cert.FirstIdeal.Gen.frame m ρ, Cert.FirstRefIdeal.Row.frame,
  IdealRules.named_const.statement Cert.AttnIdeal.κ "mask" .f32 0xF149F2CA#32 ⊥ rfl,
  @Cert.AttnIdeal.Bridge.algebraic Cert.Pre_finite.facts,
  trivial, Cert.PostIdeal.Bridge.algebraic, trivial, Cert.ProjIdeal.Bridge.algebraic,
  trivial, Cert.SampleIdeal.Bridge.algebraic, trivial, Cert.ChanIdeal.Bridge.algebraic,
  trivial, Cert.PosnIdeal.Bridge.algebraic, trivial, Cert.FirstIdeal.Bridge.algebraic⟩

end Cert.Proof

end
